-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "g0" .f32 0xC00CCCCD#32 ((-11 / 5 : ℝ) : EReal)
  ∧ IdealRules.named_const.Statement Cert.KernelIdeal.κ "sixth" .f32 0x3E2AAAAB#32 ((1 / 6 : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v370) = v0 c
          ∧ r.2.mem ((c.tc : Thread Cert.ReferenceIdeal.nD Cert.ReferenceIdeal.τ).loc Cert.ReferenceIdeal.main_v271) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x256 : Shape := ⟨3, ![4, 2048, 256]⟩
abbrev S128x256 : Shape := ⟨2, ![128, 256]⟩
abbrev S128x256x8 : Shape := ⟨3, ![128, 256, 8]⟩
abbrev S128x128x3 : Shape := ⟨3, ![128, 128, 3]⟩
abbrev S128 : Shape := ⟨1, ![128]⟩
abbrev S1x256x128 : Shape := ⟨3, ![1, 256, 128]⟩
abbrev S128x128 : Shape := ⟨2, ![128, 128]⟩
abbrev S2x256 : Shape := ⟨2, ![2, 256]⟩
abbrev S2x256x8 : Shape := ⟨3, ![2, 256, 8]⟩
abbrev S256x12 : Shape := ⟨2, ![256, 12]⟩
abbrev S256x128 : Shape := ⟨2, ![256, 128]⟩
abbrev S8x256x128 : Shape := ⟨3, ![8, 256, 128]⟩
abbrev S2048x128 : Shape := ⟨2, ![2048, 128]⟩
abbrev S3x128x128 : Shape := ⟨3, ![3, 128, 128]⟩
abbrev S384x128 : Shape := ⟨2, ![384, 128]⟩
abbrev S256x2 : Shape := ⟨2, ![256, 2]⟩
abbrev S8x256x2 : Shape := ⟨3, ![8, 256, 2]⟩
abbrev S2048x2 : Shape := ⟨2, ![2048, 2]⟩
abbrev S8192x256 : Shape := ⟨2, ![8192, 256]⟩
abbrev S8192x128 : Shape := ⟨2, ![8192, 128]⟩
abbrev S512x256 : Shape := ⟨2, ![512, 256]⟩
abbrev S512x128 : Shape := ⟨2, ![512, 128]⟩
abbrev S512x2048 : Shape := ⟨2, ![512, 2048]⟩
abbrev S4x2048x128 : Shape := ⟨3, ![4, 2048, 128]⟩
abbrev S1x128 : Shape := ⟨2, ![1, 128]⟩
abbrev S4x256x128 : Shape := ⟨3, ![4, 256, 128]⟩
abbrev S1x2048x128 : Shape := ⟨3, ![1, 2048, 128]⟩
abbrev S2047x128 : Shape := ⟨2, ![2047, 128]⟩
abbrev S2048x384 : Shape := ⟨2, ![2048, 384]⟩
abbrev S256x8x128 : Shape := ⟨3, ![256, 8, 128]⟩
abbrev S128x1 : Shape := ⟨2, ![128, 1]⟩
abbrev S4x1x256 : Shape := ⟨3, ![4, 1, 256]⟩
abbrev S4x1x2 : Shape := ⟨3, ![4, 1, 2]⟩
abbrev S1x1x256 : Shape := ⟨3, ![1, 1, 256]⟩
abbrev S1x1x2 : Shape := ⟨3, ![1, 1, 2]⟩
abbrev S256x256 : Shape := ⟨2, ![256, 256]⟩
abbrev S256x1 : Shape := ⟨2, ![256, 1]⟩
abbrev S256 : Shape := ⟨1, ![256]⟩
abbrev S1x256 : Shape := ⟨2, ![1, 256]⟩
abbrev S1x2 : Shape := ⟨2, ![1, 2]⟩
abbrev S1x2048 : Shape := ⟨2, ![1, 2048]⟩
abbrev S4x256 : Shape := ⟨2, ![4, 256]⟩
abbrev S4x2 : Shape := ⟨2, ![4, 2]⟩

abbrev nBuf : Space → Nat
  | .hbm => 46
  | .vmem => 31
  | .smem => 0
  | _ => 0

abbrev bufTy : (tb : Table) → Fin (tcTables nBuf tb) → BufTy
  | .hbm, ⟨0, _⟩ => ⟨S4x2048x256, .f32⟩
  | .hbm, ⟨1, _⟩ => ⟨S128x256, .f32⟩
  | .hbm, ⟨2, _⟩ => ⟨S128x256x8, .f32⟩
  | .hbm, ⟨3, _⟩ => ⟨S128x128x3, .f32⟩
  | .hbm, ⟨4, _⟩ => ⟨S128, .f32⟩
  | .hbm, ⟨5, _⟩ => ⟨S128x128x3, .f32⟩
  | .hbm, ⟨6, _⟩ => ⟨S128, .f32⟩
  | .hbm, ⟨7, _⟩ => ⟨S1x256x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S2x256, .f32⟩
  | .hbm, ⟨17, _⟩ => ⟨S2x256x8, .f32⟩
  | .hbm, ⟨18, _⟩ => ⟨S256x12, .f32⟩
  | .hbm, ⟨19, _⟩ => ⟨S256x12, .f32⟩
  | .hbm, ⟨20, _⟩ => ⟨S256x128, .f32⟩
  | .hbm, ⟨21, _⟩ => ⟨S8x256x128, .f32⟩
  | .hbm, ⟨22, _⟩ => ⟨S2048x128, .f32⟩
  | .hbm, ⟨23, _⟩ => ⟨S3x128x128, .f32⟩
  | .hbm, ⟨24, _⟩ => ⟨S384x128, .f32⟩
  | .hbm, ⟨25, _⟩ => ⟨S3x128x128, .f32⟩
  | .hbm, ⟨26, _⟩ => ⟨S384x128, .f32⟩
  | .hbm, ⟨27, _⟩ => ⟨S256x2, .f32⟩
  | .hbm, ⟨28, _⟩ => ⟨S8x256x2, .f32⟩
  | .hbm, ⟨29, _⟩ => ⟨S2048x2, .f32⟩
  | .hbm, ⟨30, _⟩ => ⟨S8192x256, .f32⟩
  | .hbm, ⟨31, _⟩ => ⟨S8192x128, .f32⟩
  | .hbm, ⟨32, _⟩ => ⟨S4x2048x128, .f32⟩
  | .hbm, ⟨33, _⟩ => ⟨S1x128, .f32⟩
  | .hbm, ⟨34, _⟩ => ⟨S1x128, .f32⟩
  | .hbm, ⟨35, _⟩ => ⟨S4x256x128, .f32⟩
  | .hbm, ⟨36, _⟩ => ⟨S128x1, .f32⟩
  | .hbm, ⟨37, _⟩ => ⟨S1x128, .f32⟩
  | .hbm, ⟨38, _⟩ => ⟨S128x1, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S4x1x256, .f32⟩
  | .hbm, ⟨43, _⟩ => ⟨S4x1x2, .f32⟩
  | .hbm, ⟨44, _⟩ => ⟨S4x256, .f32⟩
  | .hbm, ⟨45, _⟩ => ⟨S4x2, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S2048x128, .f32⟩
  | .local _ .vmem, ⟨4, _⟩ => ⟨S512x128, .f32⟩
  | .local _ .vmem, ⟨5, _⟩ => ⟨S512x128, .f32⟩
  | .local _ .vmem, ⟨6, _⟩ => ⟨S1x2048x128, .f32⟩
  | .local _ .vmem, ⟨7, _⟩ => ⟨S1x2048x128, .f32⟩
  | .local _ .vmem, ⟨8, _⟩ => ⟨S384x128, .f32⟩
  | .local _ .vmem, ⟨9, _⟩ => ⟨S1x128, .f32⟩
  | .local _ .vmem, ⟨10, _⟩ => ⟨S384x128, .f32⟩
  | .local _ .vmem, ⟨11, _⟩ => ⟨S1x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S128x128, .f32⟩
  | .local _ .vmem, ⟨18, _⟩ => ⟨S128x1, .f32⟩
  | .local _ .vmem, ⟨19, _⟩ => ⟨S1x128, .f32⟩
  | .local _ .vmem, ⟨20, _⟩ => ⟨S128x128, .f32⟩
  | .local _ .vmem, ⟨21, _⟩ => ⟨S128x1, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S256x2, .f32⟩
  | .local _ .vmem, ⟨26, _⟩ => ⟨S2048x2, .f32⟩
  | .local _ .vmem, ⟨27, _⟩ => ⟨S1x1x256, .f32⟩
  | .local _ .vmem, ⟨28, _⟩ => ⟨S1x1x256, .f32⟩
  | .local _ .vmem, ⟨29, _⟩ => ⟨S1x1x2, .f32⟩
  | .local _ .vmem, ⟨30, _⟩ => ⟨S1x1x2, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg11_1 : Ref sig .tc := ⟨.vmem, 28, rfl⟩
abbrev cc2_stg12_0 : Ref sig .tc := ⟨.vmem, 29, rfl⟩
abbrev cc2_stg12_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem11_1 : DmaSem sig := 28
abbrev cc2_sem12_0 : DmaSem sig := 29
abbrev cc2_sem12_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S2048x2 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1x1x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x1x2 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]
-- ==== KernelIdeal.lean ====
variable {F : FTy → Type} [FloatOps F] [Named F]
def κ : String → Option EReal := fun
  | "g0" => some ((-11 / 5 : ℝ) : EReal)
  | "mask" => some ⊥
  | "sixth" => some ((1 / 6 : ℝ) : EReal)
  | _ => none
-- ==== ReferenceIdeal.lean ====
abbrev S4x2048x256 : Shape := ⟨3, ![4, 2048, 256]⟩
abbrev S128x256 : Shape := ⟨2, ![128, 256]⟩
abbrev S128x256x8 : Shape := ⟨3, ![128, 256, 8]⟩
abbrev S128x128x3 : Shape := ⟨3, ![128, 128, 3]⟩
abbrev S128 : Shape := ⟨1, ![128]⟩
abbrev S1x256x128 : Shape := ⟨3, ![1, 256, 128]⟩
abbrev S128x128 : Shape := ⟨2, ![128, 128]⟩
abbrev S2x256 : Shape := ⟨2, ![2, 256]⟩
abbrev S2x256x8 : Shape := ⟨3, ![2, 256, 8]⟩
abbrev S256x12 : Shape := ⟨2, ![256, 12]⟩
abbrev S_ : Shape := ⟨0, ![]⟩
abbrev S12 : Shape := ⟨1, ![12]⟩
abbrev S1x12 : Shape := ⟨2, ![1, 12]⟩
abbrev S1x1x1x12 : Shape := ⟨4, ![1, 1, 1, 12]⟩
abbrev S256x1x1x12 : Shape := ⟨4, ![256, 1, 1, 12]⟩
abbrev S8192x256 : Shape := ⟨2, ![8192, 256]⟩
abbrev S256x128 : Shape := ⟨2, ![256, 128]⟩
abbrev S8192x128 : Shape := ⟨2, ![8192, 128]⟩
abbrev S8192x256x1 : Shape := ⟨3, ![8192, 256, 1]⟩
abbrev S256x11 : Shape := ⟨2, ![256, 11]⟩
abbrev S1x256x11 : Shape := ⟨3, ![1, 256, 11]⟩
abbrev S8192x256x11 : Shape := ⟨3, ![8192, 256, 11]⟩
abbrev S256x10 : Shape := ⟨2, ![256, 10]⟩
abbrev S1x256x10 : Shape := ⟨3, ![1, 256, 10]⟩
abbrev S8192x256x10 : Shape := ⟨3, ![8192, 256, 10]⟩
abbrev S256x9 : Shape := ⟨2, ![256, 9]⟩
abbrev S1x256x9 : Shape := ⟨3, ![1, 256, 9]⟩
abbrev S8192x256x9 : Shape := ⟨3, ![8192, 256, 9]⟩
abbrev S256x8 : Shape := ⟨2, ![256, 8]⟩
abbrev S1x256x8 : Shape := ⟨3, ![1, 256, 8]⟩
abbrev S8192x256x8 : Shape := ⟨3, ![8192, 256, 8]⟩
abbrev S4x2048x128 : Shape := ⟨3, ![4, 2048, 128]⟩
abbrev S4x128x2048 : Shape := ⟨3, ![4, 128, 2048]⟩
abbrev S4x128x2050 : Shape := ⟨3, ![4, 128, 2050]⟩
abbrev S128x128x1 : Shape := ⟨3, ![128, 128, 1]⟩
abbrev S128x4x2048 : Shape := ⟨3, ![128, 4, 2048]⟩
abbrev S1x128x1 : Shape := ⟨3, ![1, 128, 1]⟩
abbrev S4x128x256x8 : Shape := ⟨4, ![4, 128, 256, 8]⟩
abbrev S4x128x256 : Shape := ⟨3, ![4, 128, 256]⟩
abbrev S4x256x128 : Shape := ⟨3, ![4, 256, 128]⟩
abbrev S4x256x256 : Shape := ⟨3, ![4, 256, 256]⟩
abbrev S4x256x8 : Shape := ⟨3, ![4, 256, 8]⟩
abbrev S4x256x1 : Shape := ⟨3, ![4, 256, 1]⟩
abbrev S256x256 : Shape := ⟨2, ![256, 256]⟩
abbrev S1x256x256 : Shape := ⟨3, ![1, 256, 256]⟩
abbrev S4x256 : Shape := ⟨2, ![4, 256]⟩
abbrev S4x1x256 : Shape := ⟨3, ![4, 1, 256]⟩
abbrev S1x1x128 : Shape := ⟨3, ![1, 1, 128]⟩
abbrev S4x128 : Shape := ⟨2, ![4, 128]⟩
abbrev S256x2 : Shape := ⟨2, ![256, 2]⟩
abbrev S4x2 : Shape := ⟨2, ![4, 2]⟩
abbrev S4x256x11 : Shape := ⟨3, ![4, 256, 11]⟩
abbrev S4x256x10 : Shape := ⟨3, ![4, 256, 10]⟩
abbrev S4x256x9 : Shape := ⟨3, ![4, 256, 9]⟩

abbrev nBuf : Space → Nat
  | .hbm => 547
  | .vmem => 0
  | .smem => 0
  | _ => 0

abbrev hbmTy0_0 (i : Nat) : BufTy := match i % 128 with
  | 0 => ⟨S4x2048x256, .f32⟩
  | 1 => ⟨S128x256, .f32⟩
  | 2 => ⟨S128x256x8, .f32⟩
  | 3 => ⟨S128x128x3, .f32⟩
  | 4 => ⟨S128, .f32⟩
  | 5 => ⟨S128x128x3, .f32⟩
  | 6 => ⟨S128, .f32⟩
  | 7 => ⟨S1x256x128, .f32⟩
  | 8 => ⟨S128x128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S2x256, .f32⟩
  | 17 => ⟨S2x256x8, .f32⟩
  | 18 => ⟨S256x12, .f32⟩
  | 19 => ⟨S256x12, .f32⟩
  | 20 => ⟨S_, .f32⟩
  | 21 => ⟨S_, .f32⟩
  | 22 => ⟨S_, .f32⟩
  | 23 => ⟨S12, .f32⟩
  | 24 => ⟨S_, .f32⟩
  | 25 => ⟨S12, .f32⟩
  | 26 => ⟨S12, .f32⟩
  | 27 => ⟨S12, .f32⟩
  | 28 => ⟨S12, .f32⟩
  | 29 => ⟨S_, .f32⟩
  | 30 => ⟨S12, .f32⟩
  | 31 => ⟨S12, .f32⟩
  | 32 => ⟨S1x12, .f32⟩
  | 33 => ⟨S1x1x1x12, .f32⟩
  | 34 => ⟨S256x1x1x12, .f32⟩
  | 35 => ⟨S256x12, .f32⟩
  | 36 => ⟨S_, .f32⟩
  | 37 => ⟨S_, .f32⟩
  | 38 => ⟨S_, .f32⟩
  | 39 => ⟨S12, .f32⟩
  | 40 => ⟨S_, .f32⟩
  | 41 => ⟨S12, .f32⟩
  | 42 => ⟨S12, .f32⟩
  | 43 => ⟨S12, .f32⟩
  | 44 => ⟨S12, .f32⟩
  | 45 => ⟨S_, .f32⟩
  | 46 => ⟨S12, .f32⟩
  | 47 => ⟨S12, .f32⟩
  | 48 => ⟨S1x12, .f32⟩
  | 49 => ⟨S1x1x1x12, .f32⟩
  | 50 => ⟨S256x1x1x12, .f32⟩
  | 51 => ⟨S256x12, .f32⟩
  | 52 => ⟨S8192x256, .f32⟩
  | 53 => ⟨S8192x256, .f32⟩
  | 54 => ⟨S8192x256, .f32⟩
  | 55 => ⟨S_, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S8192x256, .f32⟩
  | 62 => ⟨S256x128, .f32⟩
  | 63 => ⟨S8192x128, .f32⟩
  | 64 => ⟨S8192x256x1, .f32⟩
  | 65 => ⟨S256x11, .f32⟩
  | 66 => ⟨S1x256x11, .f32⟩
  | 67 => ⟨S8192x256x11, .f32⟩
  | 68 => ⟨S8192x256x11, .f32⟩
  | 69 => ⟨S8192x256x11, .i1⟩
  | 70 => ⟨S256x11, .f32⟩
  | 71 => ⟨S1x256x11, .f32⟩
  | 72 => ⟨S8192x256x11, .f32⟩
  | 73 => ⟨S8192x256x11, .f32⟩
  | 74 => ⟨S8192x256x11, .i1⟩
  | 75 => ⟨S8192x256x11, .i1⟩
  | 76 => ⟨S8192x256x11, .f32⟩
  | 77 => ⟨S256x10, .f32⟩
  | 78 => ⟨S1x256x10, .f32⟩
  | 79 => ⟨S8192x256x10, .f32⟩
  | 80 => ⟨S8192x256x10, .f32⟩
  | 81 => ⟨S8192x256x10, .f32⟩
  | 82 => ⟨S256x10, .f32⟩
  | 83 => ⟨S256x10, .f32⟩
  | 84 => ⟨S256x10, .f32⟩
  | 85 => ⟨S1x256x10, .f32⟩
  | 86 => ⟨S8192x256x10, .f32⟩
  | 87 => ⟨S8192x256x10, .f32⟩
  | 88 => ⟨S8192x256x10, .f32⟩
  | 89 => ⟨S8192x256x10, .f32⟩
  | 90 => ⟨S256x10, .f32⟩
  | 91 => ⟨S1x256x10, .f32⟩
  | 92 => ⟨S8192x256x10, .f32⟩
  | 93 => ⟨S8192x256x10, .f32⟩
  | 94 => ⟨S8192x256x10, .f32⟩
  | 95 => ⟨S256x10, .f32⟩
  | 96 => ⟨S256x10, .f32⟩
  | 97 => ⟨S256x10, .f32⟩
  | 98 => ⟨S1x256x10, .f32⟩
  | 99 => ⟨S8192x256x10, .f32⟩
  | 100 => ⟨S8192x256x10, .f32⟩
  | 101 => ⟨S8192x256x10, .f32⟩
  | 102 => ⟨S8192x256x10, .f32⟩
  | 103 => ⟨S8192x256x10, .f32⟩
  | 104 => ⟨S256x9, .f32⟩
  | 105 => ⟨S1x256x9, .f32⟩
  | 106 => ⟨S8192x256x9, .f32⟩
  | 107 => ⟨S8192x256x9, .f32⟩
  | 108 => ⟨S8192x256x9, .f32⟩
  | 109 => ⟨S256x9, .f32⟩
  | 110 => ⟨S256x9, .f32⟩
  | 111 => ⟨S256x9, .f32⟩
  | 112 => ⟨S1x256x9, .f32⟩
  | 113 => ⟨S8192x256x9, .f32⟩
  | 114 => ⟨S8192x256x9, .f32⟩
  | 115 => ⟨S8192x256x9, .f32⟩
  | 116 => ⟨S8192x256x9, .f32⟩
  | 117 => ⟨S256x9, .f32⟩
  | 118 => ⟨S1x256x9, .f32⟩
  | 119 => ⟨S8192x256x9, .f32⟩
  | 120 => ⟨S8192x256x9, .f32⟩
  | 121 => ⟨S8192x256x9, .f32⟩
  | 122 => ⟨S256x9, .f32⟩
  | 123 => ⟨S256x9, .f32⟩
  | 124 => ⟨S256x9, .f32⟩
  | 125 => ⟨S1x256x9, .f32⟩
  | 126 => ⟨S8192x256x9, .f32⟩
  | 127 => ⟨S8192x256x9, .f32⟩
  | _ => ⟨S4x2048x256, .f32⟩

abbrev hbmTy0_1 (i : Nat) : BufTy := match i % 128 with
  | 0 => ⟨S8192x256x9, .f32⟩
  | 1 => ⟨S8192x256x9, .f32⟩
  | 2 => ⟨S8192x256x9, .f32⟩
  | 3 => ⟨S256x8, .f32⟩
  | 4 => ⟨S1x256x8, .f32⟩
  | 5 => ⟨S8192x256x8, .f32⟩
  | 6 => ⟨S8192x256x8, .f32⟩
  | 7 => ⟨S8192x256x8, .f32⟩
  | 8 => ⟨S256x8, .f32⟩
  | 9 => ⟨S256x8, .f32⟩
  | 10 => ⟨S256x8, .f32⟩
  | 11 => ⟨S1x256x8, .f32⟩
  | 12 => ⟨S8192x256x8, .f32⟩
  | 13 => ⟨S8192x256x8, .f32⟩
  | 14 => ⟨S8192x256x8, .f32⟩
  | 15 => ⟨S8192x256x8, .f32⟩
  | 16 => ⟨S256x8, .f32⟩
  | 17 => ⟨S1x256x8, .f32⟩
  | 18 => ⟨S8192x256x8, .f32⟩
  | 19 => ⟨S8192x256x8, .f32⟩
  | 20 => ⟨S8192x256x8, .f32⟩
  | 21 => ⟨S256x8, .f32⟩
  | 22 => ⟨S256x8, .f32⟩
  | 23 => ⟨S256x8, .f32⟩
  | 24 => ⟨S1x256x8, .f32⟩
  | 25 => ⟨S8192x256x8, .f32⟩
  | 26 => ⟨S8192x256x8, .f32⟩
  | 27 => ⟨S8192x256x8, .f32⟩
  | 28 => ⟨S8192x256x8, .f32⟩
  | 29 => ⟨S8192x256x8, .f32⟩
  | 30 => ⟨S8192x128, .f32⟩
  | 31 => ⟨S8192x128, .f32⟩
  | 32 => ⟨S4x2048x128, .f32⟩
  | 33 => ⟨S4x128x2048, .f32⟩
  | 34 => ⟨S_, .i32⟩
  | 35 => ⟨S_, .f32⟩
  | 36 => ⟨S4x128x2050, .f32⟩
  | 37 => ⟨S4x128x2048, .f32⟩
  | 38 => ⟨S128x128x1, .f32⟩
  | 39 => ⟨S128x128, .f32⟩
  | 40 => ⟨S128x4x2048, .f32⟩
  | 41 => ⟨S4x128x2048, .f32⟩
  | 42 => ⟨S_, .f32⟩
  | 43 => ⟨S4x128x2048, .f32⟩
  | 44 => ⟨S4x128x2048, .f32⟩
  | 45 => ⟨S4x128x2048, .f32⟩
  | 46 => ⟨S128x128x1, .f32⟩
  | 47 => ⟨S128x128, .f32⟩
  | 48 => ⟨S128x4x2048, .f32⟩
  | 49 => ⟨S4x128x2048, .f32⟩
  | 50 => ⟨S4x128x2048, .f32⟩
  | 51 => ⟨S4x128x2048, .f32⟩
  | 52 => ⟨S128x128x1, .f32⟩
  | 53 => ⟨S128x128, .f32⟩
  | 54 => ⟨S128x4x2048, .f32⟩
  | 55 => ⟨S4x128x2048, .f32⟩
  | 56 => ⟨S4x128x2048, .f32⟩
  | 57 => ⟨S1x128x1, .f32⟩
  | 58 => ⟨S4x128x2048, .f32⟩
  | 59 => ⟨S4x128x2048, .f32⟩
  | 60 => ⟨S_, .f32⟩
  | 61 => ⟨S_, .f32⟩
  | 62 => ⟨S4x128x2048, .f32⟩
  | 63 => ⟨S4x128x2048, .i1⟩
  | 64 => ⟨S_, .f32⟩
  | 65 => ⟨S4x128x2048, .f32⟩
  | 66 => ⟨S4x128x2048, .i1⟩
  | 67 => ⟨S_, .f32⟩
  | 68 => ⟨S_, .f32⟩
  | 69 => ⟨S4x128x2048, .f32⟩
  | 70 => ⟨S4x128x2048, .f32⟩
  | 71 => ⟨S4x128x2048, .f32⟩
  | 72 => ⟨S_, .f32⟩
  | 73 => ⟨S4x128x2048, .f32⟩
  | 74 => ⟨S4x128x2048, .f32⟩
  | 75 => ⟨S4x128x2048, .f32⟩
  | 76 => ⟨S_, .f32⟩
  | 77 => ⟨S4x128x2048, .f32⟩
  | 78 => ⟨S4x128x2048, .f32⟩
  | 79 => ⟨S_, .i32⟩
  | 80 => ⟨S_, .f32⟩
  | 81 => ⟨S4x128x2050, .f32⟩
  | 82 => ⟨S4x128x2048, .f32⟩
  | 83 => ⟨S128x128x1, .f32⟩
  | 84 => ⟨S128x128, .f32⟩
  | 85 => ⟨S128x4x2048, .f32⟩
  | 86 => ⟨S4x128x2048, .f32⟩
  | 87 => ⟨S_, .f32⟩
  | 88 => ⟨S4x128x2048, .f32⟩
  | 89 => ⟨S4x128x2048, .f32⟩
  | 90 => ⟨S4x128x2048, .f32⟩
  | 91 => ⟨S128x128x1, .f32⟩
  | 92 => ⟨S128x128, .f32⟩
  | 93 => ⟨S128x4x2048, .f32⟩
  | 94 => ⟨S4x128x2048, .f32⟩
  | 95 => ⟨S4x128x2048, .f32⟩
  | 96 => ⟨S4x128x2048, .f32⟩
  | 97 => ⟨S128x128x1, .f32⟩
  | 98 => ⟨S128x128, .f32⟩
  | 99 => ⟨S128x4x2048, .f32⟩
  | 100 => ⟨S4x128x2048, .f32⟩
  | 101 => ⟨S4x128x2048, .f32⟩
  | 102 => ⟨S1x128x1, .f32⟩
  | 103 => ⟨S4x128x2048, .f32⟩
  | 104 => ⟨S4x128x2048, .f32⟩
  | 105 => ⟨S_, .f32⟩
  | 106 => ⟨S_, .f32⟩
  | 107 => ⟨S4x128x2048, .f32⟩
  | 108 => ⟨S4x128x2048, .i1⟩
  | 109 => ⟨S_, .f32⟩
  | 110 => ⟨S4x128x2048, .f32⟩
  | 111 => ⟨S4x128x2048, .i1⟩
  | 112 => ⟨S_, .f32⟩
  | 113 => ⟨S_, .f32⟩
  | 114 => ⟨S4x128x2048, .f32⟩
  | 115 => ⟨S4x128x2048, .f32⟩
  | 116 => ⟨S4x128x2048, .f32⟩
  | 117 => ⟨S_, .f32⟩
  | 118 => ⟨S4x128x2048, .f32⟩
  | 119 => ⟨S4x128x2048, .f32⟩
  | 120 => ⟨S4x128x2048, .f32⟩
  | 121 => ⟨S_, .f32⟩
  | 122 => ⟨S4x128x2048, .f32⟩
  | 123 => ⟨S4x128x2048, .f32⟩
  | 124 => ⟨S4x128x256x8, .f32⟩
  | 125 => ⟨S_, .f32⟩
  | 126 => ⟨S4x128x256, .f32⟩
  | 127 => ⟨S_, .f32⟩
  | _ => ⟨S4x2048x256, .f32⟩

abbrev hbmTy0_2 (i : Nat) : BufTy := match i % 128 with
  | 0 => ⟨S4x128x256, .f32⟩
  | 1 => ⟨S4x128x256, .f32⟩
  | 2 => ⟨S4x256x128, .f32⟩
  | 3 => ⟨S4x256x128, .f32⟩
  | 4 => ⟨S4x256x128, .f32⟩
  | 5 => ⟨S4x256x256, .f32⟩
  | 6 => ⟨S4x256x8, .f32⟩
  | 7 => ⟨S4x256x8, .i32⟩
  | 8 => ⟨S4x256x1, .f32⟩
  | 9 => ⟨S4x256x256, .f32⟩
  | 10 => ⟨S4x256x256, .i1⟩
  | 11 => ⟨S4x256x256, .f32⟩
  | 12 => ⟨S4x256x256, .f32⟩
  | 13 => ⟨S4x256x256, .f32⟩
  | 14 => ⟨S256x256, .i32⟩
  | 15 => ⟨S256x256, .i32⟩
  | 16 => ⟨S_, .i32⟩
  | 17 => ⟨S256x256, .i32⟩
  | 18 => ⟨S256x256, .i32⟩
  | 19 => ⟨S256x256, .i1⟩
  | 20 => ⟨S256x256, .f32⟩
  | 21 => ⟨S1x256x256, .f32⟩
  | 22 => ⟨S4x256x256, .f32⟩
  | 23 => ⟨S4x256x256, .f32⟩
  | 24 => ⟨S4x256x128, .f32⟩
  | 25 => ⟨S4x256, .f32⟩
  | 26 => ⟨S4x256, .f32⟩
  | 27 => ⟨S4x256x1, .f32⟩
  | 28 => ⟨S4x1x256, .f32⟩
  | 29 => ⟨S4x256x256, .f32⟩
  | 30 => ⟨S4x256x256, .f32⟩
  | 31 => ⟨S4x256x256, .f32⟩
  | 32 => ⟨S_, .f32⟩
  | 33 => ⟨S_, .f32⟩
  | 34 => ⟨S4x256x256, .f32⟩
  | 35 => ⟨S4x256x256, .i1⟩
  | 36 => ⟨S_, .f32⟩
  | 37 => ⟨S4x256x256, .f32⟩
  | 38 => ⟨S4x256x256, .f32⟩
  | 39 => ⟨S4x256x256, .f32⟩
  | 40 => ⟨S_, .f32⟩
  | 41 => ⟨S4x256x256, .f32⟩
  | 42 => ⟨S4x256x256, .i1⟩
  | 43 => ⟨S_, .f32⟩
  | 44 => ⟨S_, .f32⟩
  | 45 => ⟨S4x256x256, .f32⟩
  | 46 => ⟨S4x256x256, .f32⟩
  | 47 => ⟨S_, .f32⟩
  | 48 => ⟨S4x256, .f32⟩
  | 49 => ⟨S_, .f32⟩
  | 50 => ⟨S4x256, .f32⟩
  | 51 => ⟨S4x256, .f32⟩
  | 52 => ⟨S4x256x1, .f32⟩
  | 53 => ⟨S4x256x256, .f32⟩
  | 54 => ⟨S4x256x256, .f32⟩
  | 55 => ⟨S4x256x256, .f32⟩
  | 56 => ⟨S_, .f32⟩
  | 57 => ⟨S4x256, .f32⟩
  | 58 => ⟨S4x256x1, .f32⟩
  | 59 => ⟨S4x256x256, .f32⟩
  | 60 => ⟨S4x256x256, .f32⟩
  | 61 => ⟨S4x256x128, .f32⟩
  | 62 => ⟨S_, .f32⟩
  | 63 => ⟨S4x256x128, .f32⟩
  | 64 => ⟨S4x256x128, .i1⟩
  | 65 => ⟨S_, .f32⟩
  | 66 => ⟨S4x256x128, .f32⟩
  | 67 => ⟨S4x256x128, .i1⟩
  | 68 => ⟨S_, .f32⟩
  | 69 => ⟨S_, .f32⟩
  | 70 => ⟨S4x256x128, .f32⟩
  | 71 => ⟨S4x256x128, .f32⟩
  | 72 => ⟨S4x256x128, .f32⟩
  | 73 => ⟨S_, .f32⟩
  | 74 => ⟨S4x256x128, .f32⟩
  | 75 => ⟨S4x256x128, .f32⟩
  | 76 => ⟨S4x256x128, .f32⟩
  | 77 => ⟨S4x256x128, .f32⟩
  | 78 => ⟨S4x256x128, .f32⟩
  | 79 => ⟨S4x256, .f32⟩
  | 80 => ⟨S4x256, .f32⟩
  | 81 => ⟨S4x256x1, .f32⟩
  | 82 => ⟨S4x1x256, .f32⟩
  | 83 => ⟨S4x256x256, .f32⟩
  | 84 => ⟨S4x256x256, .f32⟩
  | 85 => ⟨S4x256x256, .f32⟩
  | 86 => ⟨S_, .f32⟩
  | 87 => ⟨S_, .f32⟩
  | 88 => ⟨S4x256x256, .f32⟩
  | 89 => ⟨S4x256x256, .i1⟩
  | 90 => ⟨S_, .f32⟩
  | 91 => ⟨S4x256x256, .f32⟩
  | 92 => ⟨S4x256x256, .f32⟩
  | 93 => ⟨S4x256x256, .f32⟩
  | 94 => ⟨S_, .f32⟩
  | 95 => ⟨S4x256x256, .f32⟩
  | 96 => ⟨S4x256x256, .i1⟩
  | 97 => ⟨S_, .f32⟩
  | 98 => ⟨S_, .f32⟩
  | 99 => ⟨S4x256x256, .f32⟩
  | 100 => ⟨S4x256x256, .f32⟩
  | 101 => ⟨S_, .f32⟩
  | 102 => ⟨S4x256, .f32⟩
  | 103 => ⟨S_, .f32⟩
  | 104 => ⟨S4x256, .f32⟩
  | 105 => ⟨S4x256, .f32⟩
  | 106 => ⟨S4x256x1, .f32⟩
  | 107 => ⟨S4x256x256, .f32⟩
  | 108 => ⟨S4x256x256, .f32⟩
  | 109 => ⟨S4x256x256, .f32⟩
  | 110 => ⟨S_, .f32⟩
  | 111 => ⟨S4x256, .f32⟩
  | 112 => ⟨S4x256x1, .f32⟩
  | 113 => ⟨S4x256x256, .f32⟩
  | 114 => ⟨S4x256x256, .f32⟩
  | 115 => ⟨S4x256x128, .f32⟩
  | 116 => ⟨S_, .f32⟩
  | 117 => ⟨S4x256x128, .f32⟩
  | 118 => ⟨S4x256x128, .i1⟩
  | 119 => ⟨S_, .f32⟩
  | 120 => ⟨S4x256x128, .f32⟩
  | 121 => ⟨S4x256x128, .i1⟩
  | 122 => ⟨S_, .f32⟩
  | 123 => ⟨S_, .f32⟩
  | 124 => ⟨S4x256x128, .f32⟩
  | 125 => ⟨S4x256x128, .f32⟩
  | 126 => ⟨S4x256x128, .f32⟩
  | 127 => ⟨S_, .f32⟩
  | _ => ⟨S4x2048x256, .f32⟩

abbrev hbmTy0_3 (i : Nat) : BufTy := match i % 128 with
  | 0 => ⟨S4x256x128, .f32⟩
  | 1 => ⟨S4x256x128, .f32⟩
  | 2 => ⟨S4x256x128, .f32⟩
  | 3 => ⟨S4x256x128, .f32⟩
  | 4 => ⟨S_, .f32⟩
  | 5 => ⟨S4x256, .f32⟩
  | 6 => ⟨S4x256x1, .f32⟩
  | 7 => ⟨S_, .f32⟩
  | 8 => ⟨S4x256x1, .f32⟩
  | 9 => ⟨S4x256x1, .f32⟩
  | 10 => ⟨S_, .i32⟩
  | 11 => ⟨S_, .f32⟩
  | 12 => ⟨S4x256, .f32⟩
  | 13 => ⟨S4x256x1, .f32⟩
  | 14 => ⟨S_, .f32⟩
  | 15 => ⟨S4x256x1, .f32⟩
  | 16 => ⟨S4x256x1, .f32⟩
  | 17 => ⟨S4x256x128, .f32⟩
  | 18 => ⟨S4x256x128, .f32⟩
  | 19 => ⟨S4x256x128, .f32⟩
  | 20 => ⟨S_, .f32⟩
  | 21 => ⟨S_, .f32⟩
  | 22 => ⟨S_, .f32⟩
  | 23 => ⟨S_, .f32⟩
  | 24 => ⟨S4x256, .f32⟩
  | 25 => ⟨S4x256x1, .f32⟩
  | 26 => ⟨S4x256x1, .f32⟩
  | 27 => ⟨S4x256x1, .f32⟩
  | 28 => ⟨S_, .f32⟩
  | 29 => ⟨S_, .i1⟩
  | 30 => ⟨S_, .f32⟩
  | 31 => ⟨S_, .f32⟩
  | 32 => ⟨S4x256x1, .f32⟩
  | 33 => ⟨S4x256x1, .f32⟩
  | 34 => ⟨S4x256x128, .f32⟩
  | 35 => ⟨S4x256x128, .f32⟩
  | 36 => ⟨S_, .f32⟩
  | 37 => ⟨S4x256x1, .f32⟩
  | 38 => ⟨S4x256x1, .f32⟩
  | 39 => ⟨S4x256x1, .f32⟩
  | 40 => ⟨S4x256x128, .f32⟩
  | 41 => ⟨S4x256x128, .f32⟩
  | 42 => ⟨S1x1x128, .f32⟩
  | 43 => ⟨S4x256x128, .f32⟩
  | 44 => ⟨S4x256x128, .f32⟩
  | 45 => ⟨S1x1x128, .f32⟩
  | 46 => ⟨S4x256x128, .f32⟩
  | 47 => ⟨S4x256x128, .f32⟩
  | 48 => ⟨S_, .f32⟩
  | 49 => ⟨S4x128, .f32⟩
  | 50 => ⟨S_, .f32⟩
  | 51 => ⟨S4x128, .f32⟩
  | 52 => ⟨S4x128, .f32⟩
  | 53 => ⟨S_, .f32⟩
  | 54 => ⟨S4x128, .f32⟩
  | 55 => ⟨S4x256, .f32⟩
  | 56 => ⟨S4x256, .f32⟩
  | 57 => ⟨S4x256, .f32⟩
  | 58 => ⟨S_, .f32⟩
  | 59 => ⟨S4x256, .f32⟩
  | 60 => ⟨S4x256, .f32⟩
  | 61 => ⟨S_, .f32⟩
  | 62 => ⟨S4x256, .f32⟩
  | 63 => ⟨S4x256, .f32⟩
  | 64 => ⟨S4x256, .f32⟩
  | 65 => ⟨S256x2, .f32⟩
  | 66 => ⟨S4x2, .f32⟩
  | 67 => ⟨S4x256x1, .f32⟩
  | 68 => ⟨S256x11, .f32⟩
  | 69 => ⟨S1x256x11, .f32⟩
  | 70 => ⟨S4x256x11, .f32⟩
  | 71 => ⟨S4x256x11, .f32⟩
  | 72 => ⟨S4x256x11, .i1⟩
  | 73 => ⟨S256x11, .f32⟩
  | 74 => ⟨S1x256x11, .f32⟩
  | 75 => ⟨S4x256x11, .f32⟩
  | 76 => ⟨S4x256x11, .f32⟩
  | 77 => ⟨S4x256x11, .i1⟩
  | 78 => ⟨S4x256x11, .i1⟩
  | 79 => ⟨S4x256x11, .f32⟩
  | 80 => ⟨S256x10, .f32⟩
  | 81 => ⟨S1x256x10, .f32⟩
  | 82 => ⟨S4x256x10, .f32⟩
  | 83 => ⟨S4x256x10, .f32⟩
  | 84 => ⟨S4x256x10, .f32⟩
  | 85 => ⟨S256x10, .f32⟩
  | 86 => ⟨S256x10, .f32⟩
  | 87 => ⟨S256x10, .f32⟩
  | 88 => ⟨S1x256x10, .f32⟩
  | 89 => ⟨S4x256x10, .f32⟩
  | 90 => ⟨S4x256x10, .f32⟩
  | 91 => ⟨S4x256x10, .f32⟩
  | 92 => ⟨S4x256x10, .f32⟩
  | 93 => ⟨S256x10, .f32⟩
  | 94 => ⟨S1x256x10, .f32⟩
  | 95 => ⟨S4x256x10, .f32⟩
  | 96 => ⟨S4x256x10, .f32⟩
  | 97 => ⟨S4x256x10, .f32⟩
  | 98 => ⟨S256x10, .f32⟩
  | 99 => ⟨S256x10, .f32⟩
  | 100 => ⟨S256x10, .f32⟩
  | 101 => ⟨S1x256x10, .f32⟩
  | 102 => ⟨S4x256x10, .f32⟩
  | 103 => ⟨S4x256x10, .f32⟩
  | 104 => ⟨S4x256x10, .f32⟩
  | 105 => ⟨S4x256x10, .f32⟩
  | 106 => ⟨S4x256x10, .f32⟩
  | 107 => ⟨S256x9, .f32⟩
  | 108 => ⟨S1x256x9, .f32⟩
  | 109 => ⟨S4x256x9, .f32⟩
  | 110 => ⟨S4x256x9, .f32⟩
  | 111 => ⟨S4x256x9, .f32⟩
  | 112 => ⟨S256x9, .f32⟩
  | 113 => ⟨S256x9, .f32⟩
  | 114 => ⟨S256x9, .f32⟩
  | 115 => ⟨S1x256x9, .f32⟩
  | 116 => ⟨S4x256x9, .f32⟩
  | 117 => ⟨S4x256x9, .f32⟩
  | 118 => ⟨S4x256x9, .f32⟩
  | 119 => ⟨S4x256x9, .f32⟩
  | 120 => ⟨S256x9, .f32⟩
  | 121 => ⟨S1x256x9, .f32⟩
  | 122 => ⟨S4x256x9, .f32⟩
  | 123 => ⟨S4x256x9, .f32⟩
  | 124 => ⟨S4x256x9, .f32⟩
  | 125 => ⟨S256x9, .f32⟩
  | 126 => ⟨S256x9, .f32⟩
  | 127 => ⟨S256x9, .f32⟩
  | _ => ⟨S4x2048x256, .f32⟩

abbrev hbmTy0_4 (i : Nat) : BufTy := match i % 128 with
  | 0 => ⟨S1x256x9, .f32⟩
  | 1 => ⟨S4x256x9, .f32⟩
  | 2 => ⟨S4x256x9, .f32⟩
  | 3 => ⟨S4x256x9, .f32⟩
  | 4 => ⟨S4x256x9, .f32⟩
  | 5 => ⟨S4x256x9, .f32⟩
  | 6 => ⟨S256x8, .f32⟩
  | 7 => ⟨S1x256x8, .f32⟩
  | 8 => ⟨S4x256x8, .f32⟩
  | 9 => ⟨S4x256x8, .f32⟩
  | 10 => ⟨S4x256x8, .f32⟩
  | 11 => ⟨S256x8, .f32⟩
  | 12 => ⟨S256x8, .f32⟩
  | 13 => ⟨S256x8, .f32⟩
  | 14 => ⟨S1x256x8, .f32⟩
  | 15 => ⟨S4x256x8, .f32⟩
  | 16 => ⟨S4x256x8, .f32⟩
  | 17 => ⟨S4x256x8, .f32⟩
  | 18 => ⟨S4x256x8, .f32⟩
  | 19 => ⟨S256x8, .f32⟩
  | 20 => ⟨S1x256x8, .f32⟩
  | 21 => ⟨S4x256x8, .f32⟩
  | 22 => ⟨S4x256x8, .f32⟩
  | 23 => ⟨S4x256x8, .f32⟩
  | 24 => ⟨S256x8, .f32⟩
  | 25 => ⟨S256x8, .f32⟩
  | 26 => ⟨S256x8, .f32⟩
  | 27 => ⟨S1x256x8, .f32⟩
  | 28 => ⟨S4x256x8, .f32⟩
  | 29 => ⟨S4x256x8, .f32⟩
  | 30 => ⟨S4x256x8, .f32⟩
  | 31 => ⟨S4x256x8, .f32⟩
  | 32 => ⟨S4x256x8, .f32⟩
  | 33 => ⟨S4x2, .f32⟩
  | 34 => ⟨S4x2, .f32⟩
  | _ => ⟨S4x2048x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x256, .f32⟩

abbrev bufTy : (tb : Table) → Fin (tcTables nBuf tb) → BufTy
  | .hbm, ⟨i, _⟩ => hbmTy i
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_cst_0 : Ref sig .tc := ⟨.hbm, 21, rfl⟩
abbrev main_v0 : Ref sig .tc := ⟨.hbm, 22, rfl⟩
abbrev main_v1 : Ref sig .tc := ⟨.hbm, 23, rfl⟩
abbrev main_cst_1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_3 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_cst_5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c : Ref sig .tc := ⟨.hbm, 162, rfl⟩
abbrev main_call1_v0 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_7 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_call2_cst : Ref sig .tc := ⟨.hbm, 188, rfl⟩
abbrev main_call2_call0_cst : Ref sig .tc := ⟨.hbm, 189, rfl⟩
abbrev main_call2_call0_v0 : Ref sig .tc := ⟨.hbm, 190, rfl⟩
abbrev main_call2_call0_v1 : Ref sig .tc := ⟨.hbm, 191, rfl⟩
abbrev main_call2_call0_cst_0 : Ref sig .tc := ⟨.hbm, 192, rfl⟩
abbrev main_call2_call0_v2 : Ref sig .tc := ⟨.hbm, 193, rfl⟩
abbrev main_call2_call0_v3 : Ref sig .tc := ⟨.hbm, 194, rfl⟩
abbrev main_call2_call0_cst_1 : Ref sig .tc := ⟨.hbm, 195, rfl⟩
abbrev main_call2_call0_call0_v0 : Ref sig .tc := ⟨.hbm, 196, rfl⟩
abbrev main_call2_call0_call0_v1 : Ref sig .tc := ⟨.hbm, 197, rfl⟩
abbrev main_call2_call0_v4 : Ref sig .tc := ⟨.hbm, 198, rfl⟩
abbrev main_call2_call0_v5 : Ref sig .tc := ⟨.hbm, 199, rfl⟩
abbrev main_call2_call0_v6 : Ref sig .tc := ⟨.hbm, 200, rfl⟩
abbrev main_call2_call0_v7 : Ref sig .tc := ⟨.hbm, 201, rfl⟩
abbrev main_call2_call0_v8 : Ref sig .tc := ⟨.hbm, 202, rfl⟩
abbrev main_call2_v0 : Ref sig .tc := ⟨.hbm, 203, rfl⟩
abbrev main_call2_cst_0 : Ref sig .tc := ⟨.hbm, 204, rfl⟩
abbrev main_call2_v1 : Ref sig .tc := ⟨.hbm, 205, rfl⟩
abbrev main_v149 : Ref sig .tc := ⟨.hbm, 206, rfl⟩
abbrev main_c_8 : Ref sig .tc := ⟨.hbm, 207, rfl⟩
abbrev main_call3_v0 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_9 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_call4_cst : Ref sig .tc := ⟨.hbm, 233, rfl⟩
abbrev main_call4_call0_cst : Ref sig .tc := ⟨.hbm, 234, rfl⟩
abbrev main_call4_call0_v0 : Ref sig .tc := ⟨.hbm, 235, rfl⟩
abbrev main_call4_call0_v1 : Ref sig .tc := ⟨.hbm, 236, rfl⟩
abbrev main_call4_call0_cst_0 : Ref sig .tc := ⟨.hbm, 237, rfl⟩
abbrev main_call4_call0_v2 : Ref sig .tc := ⟨.hbm, 238, rfl⟩
abbrev main_call4_call0_v3 : Ref sig .tc := ⟨.hbm, 239, rfl⟩
abbrev main_call4_call0_cst_1 : Ref sig .tc := ⟨.hbm, 240, rfl⟩
abbrev main_call4_call0_call0_v0 : Ref sig .tc := ⟨.hbm, 241, rfl⟩
abbrev main_call4_call0_call0_v1 : Ref sig .tc := ⟨.hbm, 242, rfl⟩
abbrev main_call4_call0_v4 : Ref sig .tc := ⟨.hbm, 243, rfl⟩
abbrev main_call4_call0_v5 : Ref sig .tc := ⟨.hbm, 244, rfl⟩
abbrev main_call4_call0_v6 : Ref sig .tc := ⟨.hbm, 245, rfl⟩
abbrev main_call4_call0_v7 : Ref sig .tc := ⟨.hbm, 246, rfl⟩
abbrev main_call4_call0_v8 : Ref sig .tc := ⟨.hbm, 247, rfl⟩
abbrev main_call4_v0 : Ref sig .tc := ⟨.hbm, 248, rfl⟩
abbrev main_call4_cst_0 : Ref sig .tc := ⟨.hbm, 249, rfl⟩
abbrev main_call4_v1 : Ref sig .tc := ⟨.hbm, 250, rfl⟩
abbrev main_v173 : Ref sig .tc := ⟨.hbm, 251, rfl⟩
abbrev main_v174 : Ref sig .tc := ⟨.hbm, 252, rfl⟩
abbrev main_cst_10 : Ref sig .tc := ⟨.hbm, 253, rfl⟩
abbrev main_v175 : Ref sig .tc := ⟨.hbm, 254, rfl⟩
abbrev main_cst_11 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_values : Ref sig .tc := ⟨.hbm, 262, rfl⟩
abbrev main_indices : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_c_12 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_cst_13 : Ref sig .tc := ⟨.hbm, 288, rfl⟩
abbrev main_call5_cst : Ref sig .tc := ⟨.hbm, 289, rfl⟩
abbrev main_call5_v0 : Ref sig .tc := ⟨.hbm, 290, rfl⟩
abbrev main_call5_v1 : Ref sig .tc := ⟨.hbm, 291, rfl⟩
abbrev main_call5_v2 : Ref sig .tc := ⟨.hbm, 292, rfl⟩
abbrev main_call5_v3 : Ref sig .tc := ⟨.hbm, 293, rfl⟩
abbrev main_call5_v4 : Ref sig .tc := ⟨.hbm, 294, rfl⟩
abbrev main_v205 : Ref sig .tc := ⟨.hbm, 295, rfl⟩
abbrev main_cst_14 : Ref sig .tc := ⟨.hbm, 296, rfl⟩
abbrev main_v206 : Ref sig .tc := ⟨.hbm, 297, rfl⟩
abbrev main_v207 : Ref sig .tc := ⟨.hbm, 298, rfl⟩
abbrev main_cst_15 : Ref sig .tc := ⟨.hbm, 299, rfl⟩
abbrev main_call6_v0 : Ref sig .tc := ⟨.hbm, 300, rfl⟩
abbrev main_call6_v1 : Ref sig .tc := ⟨.hbm, 301, rfl⟩
abbrev main_v208 : Ref sig .tc := ⟨.hbm, 302, rfl⟩
abbrev main_cst_16 : Ref sig .tc := ⟨.hbm, 303, rfl⟩
abbrev main_v209 : Ref sig .tc := ⟨.hbm, 304, rfl⟩
abbrev main_cst_17 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_cst_18 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_call7_cst : Ref sig .tc := ⟨.hbm, 318, rfl⟩
abbrev main_call7_v0 : Ref sig .tc := ⟨.hbm, 319, rfl⟩
abbrev main_call7_v1 : Ref sig .tc := ⟨.hbm, 320, rfl⟩
abbrev main_call7_cst_0 : Ref sig .tc := ⟨.hbm, 321, rfl⟩
abbrev main_call7_v2 : Ref sig .tc := ⟨.hbm, 322, rfl⟩
abbrev main_call7_v3 : Ref sig .tc := ⟨.hbm, 323, rfl⟩
abbrev main_call7_cst_1 : Ref sig .tc := ⟨.hbm, 324, rfl⟩
abbrev main_call7_call0_v0 : Ref sig .tc := ⟨.hbm, 325, rfl⟩
abbrev main_call7_call0_v1 : Ref sig .tc := ⟨.hbm, 326, rfl⟩
abbrev main_call7_v4 : Ref sig .tc := ⟨.hbm, 327, rfl⟩
abbrev main_call7_v5 : Ref sig .tc := ⟨.hbm, 328, rfl⟩
abbrev main_call7_cst_2 : Ref sig .tc := ⟨.hbm, 329, rfl⟩
abbrev main_call7_v6 : Ref sig .tc := ⟨.hbm, 330, rfl⟩
abbrev main_call7_v7 : Ref sig .tc := ⟨.hbm, 331, rfl⟩
abbrev main_v221 : Ref sig .tc := ⟨.hbm, 332, rfl⟩
abbrev main_v222 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_cst_19 : Ref sig .tc := ⟨.hbm, 342, rfl⟩
abbrev main_call8_cst : Ref sig .tc := ⟨.hbm, 343, rfl⟩
abbrev main_call8_v0 : Ref sig .tc := ⟨.hbm, 344, rfl⟩
abbrev main_call8_v1 : Ref sig .tc := ⟨.hbm, 345, rfl⟩
abbrev main_call8_v2 : Ref sig .tc := ⟨.hbm, 346, rfl⟩
abbrev main_call8_v3 : Ref sig .tc := ⟨.hbm, 347, rfl⟩
abbrev main_call8_v4 : Ref sig .tc := ⟨.hbm, 348, rfl⟩
abbrev main_v231 : Ref sig .tc := ⟨.hbm, 349, rfl⟩
abbrev main_cst_20 : Ref sig .tc := ⟨.hbm, 350, rfl⟩
abbrev main_v232 : Ref sig .tc := ⟨.hbm, 351, rfl⟩
abbrev main_v233 : Ref sig .tc := ⟨.hbm, 352, rfl⟩
abbrev main_cst_21 : Ref sig .tc := ⟨.hbm, 353, rfl⟩
abbrev main_call9_v0 : Ref sig .tc := ⟨.hbm, 354, rfl⟩
abbrev main_call9_v1 : Ref sig .tc := ⟨.hbm, 355, rfl⟩
abbrev main_v234 : Ref sig .tc := ⟨.hbm, 356, rfl⟩
abbrev main_cst_22 : Ref sig .tc := ⟨.hbm, 357, rfl⟩
abbrev main_v235 : Ref sig .tc := ⟨.hbm, 358, rfl⟩
abbrev main_cst_23 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_cst_24 : Ref sig .tc := ⟨.hbm, 366, rfl⟩
abbrev main_v242 : Ref sig .tc := ⟨.hbm, 367, rfl⟩
abbrev main_v243 : Ref sig .tc := ⟨.hbm, 368, rfl⟩
abbrev main_v244 : Ref sig .tc := ⟨.hbm, 369, rfl⟩
abbrev main_v245 : Ref sig .tc := ⟨.hbm, 370, rfl⟩
abbrev main_v246 : Ref sig .tc := ⟨.hbm, 371, rfl⟩
abbrev main_call10_cst : Ref sig .tc := ⟨.hbm, 372, rfl⟩
abbrev main_call10_v0 : Ref sig .tc := ⟨.hbm, 373, rfl⟩
abbrev main_call10_v1 : Ref sig .tc := ⟨.hbm, 374, rfl⟩
abbrev main_call10_cst_0 : Ref sig .tc := ⟨.hbm, 375, rfl⟩
abbrev main_call10_v2 : Ref sig .tc := ⟨.hbm, 376, rfl⟩
abbrev main_call10_v3 : Ref sig .tc := ⟨.hbm, 377, rfl⟩
abbrev main_call10_cst_1 : Ref sig .tc := ⟨.hbm, 378, rfl⟩
abbrev main_call10_call0_v0 : Ref sig .tc := ⟨.hbm, 379, rfl⟩
abbrev main_call10_call0_v1 : Ref sig .tc := ⟨.hbm, 380, rfl⟩
abbrev main_call10_v4 : Ref sig .tc := ⟨.hbm, 381, rfl⟩
abbrev main_call10_v5 : Ref sig .tc := ⟨.hbm, 382, rfl⟩
abbrev main_call10_cst_2 : Ref sig .tc := ⟨.hbm, 383, rfl⟩
abbrev main_call10_v6 : Ref sig .tc := ⟨.hbm, 384, rfl⟩
abbrev main_call10_v7 : Ref sig .tc := ⟨.hbm, 385, rfl⟩
abbrev main_v247 : Ref sig .tc := ⟨.hbm, 386, rfl⟩
abbrev main_v248 : Ref sig .tc := ⟨.hbm, 387, rfl⟩
abbrev main_cst_25 : Ref sig .tc := ⟨.hbm, 388, rfl⟩
abbrev main_v249 : Ref sig .tc := ⟨.hbm, 389, rfl⟩
abbrev main_v250 : Ref sig .tc := ⟨.hbm, 390, rfl⟩
abbrev main_cst_26 : Ref sig .tc := ⟨.hbm, 391, rfl⟩
abbrev main_v251 : Ref sig .tc := ⟨.hbm, 392, rfl⟩
abbrev main_v252 : Ref sig .tc := ⟨.hbm, 393, rfl⟩
abbrev main_c_27 : Ref sig .tc := ⟨.hbm, 394, rfl⟩
abbrev main_call11_cst : Ref sig .tc := ⟨.hbm, 395, rfl⟩
abbrev main_call11_v0 : Ref sig .tc := ⟨.hbm, 396, rfl⟩
abbrev main_call11_v1 : Ref sig .tc := ⟨.hbm, 397, rfl⟩
abbrev main_call11_cst_0 : Ref sig .tc := ⟨.hbm, 398, rfl⟩
abbrev main_call11_v2 : Ref sig .tc := ⟨.hbm, 399, rfl⟩
abbrev main_call11_v3 : Ref sig .tc := ⟨.hbm, 400, rfl⟩
abbrev main_call11_v4 : Ref sig .tc := ⟨.hbm, 401, rfl⟩
abbrev main_call11_v5 : Ref sig .tc := ⟨.hbm, 402, rfl⟩
abbrev main_call11_v6 : Ref sig .tc := ⟨.hbm, 403, rfl⟩
abbrev main_call11_v7 : Ref sig .tc := ⟨.hbm, 404, rfl⟩
abbrev main_call11_cst_1 : Ref sig .tc := ⟨.hbm, 405, rfl⟩
abbrev main_call11_v8 : Ref sig .tc := ⟨.hbm, 406, rfl⟩
abbrev main_call11_cst_2 : Ref sig .tc := ⟨.hbm, 407, rfl⟩
abbrev main_call11_v9 : Ref sig .tc := ⟨.hbm, 408, rfl⟩
abbrev main_call11_v10 : Ref sig .tc := ⟨.hbm, 409, rfl⟩
abbrev main_call11_v11 : Ref sig .tc := ⟨.hbm, 410, rfl⟩
abbrev main_call11_v12 : Ref sig .tc := ⟨.hbm, 411, rfl⟩
abbrev main_call11_cst_3 : Ref sig .tc := ⟨.hbm, 412, rfl⟩
abbrev main_call11_v13 : Ref sig .tc := ⟨.hbm, 413, rfl⟩
abbrev main_call11_cst_4 : Ref sig .tc := ⟨.hbm, 414, rfl⟩
abbrev main_call11_call0_v0 : Ref sig .tc := ⟨.hbm, 415, rfl⟩
abbrev main_call11_call0_v1 : Ref sig .tc := ⟨.hbm, 416, rfl⟩
abbrev main_v253 : Ref sig .tc := ⟨.hbm, 417, rfl⟩
abbrev main_v254 : Ref sig .tc := ⟨.hbm, 418, rfl⟩
abbrev main_v255 : Ref sig .tc := ⟨.hbm, 419, rfl⟩
abbrev main_cst_28 : Ref sig .tc := ⟨.hbm, 420, rfl⟩
abbrev main_v256 : Ref sig .tc := ⟨.hbm, 421, rfl⟩
abbrev main_v257 : Ref sig .tc := ⟨.hbm, 422, rfl⟩
abbrev main_v258 : Ref sig .tc := ⟨.hbm, 423, rfl⟩
abbrev main_v259 : Ref sig .tc := ⟨.hbm, 424, rfl⟩
abbrev main_v260 : Ref sig .tc := ⟨.hbm, 425, rfl⟩
abbrev main_v261 : Ref sig .tc := ⟨.hbm, 426, rfl⟩
abbrev main_v262 : Ref sig .tc := ⟨.hbm, 427, rfl⟩
abbrev main_v263 : Ref sig .tc := ⟨.hbm, 428, rfl⟩
abbrev main_v264 : Ref sig .tc := ⟨.hbm, 429, rfl⟩
abbrev main_v265 : Ref sig .tc := ⟨.hbm, 430, rfl⟩
abbrev main_v266 : Ref sig .tc := ⟨.hbm, 431, rfl⟩
abbrev main_cst_29 : Ref sig .tc := ⟨.hbm, 432, rfl⟩
abbrev main_v267 : Ref sig .tc := ⟨.hbm, 433, rfl⟩
abbrev main_cst_30 : Ref sig .tc := ⟨.hbm, 434, rfl⟩
abbrev main_v268 : Ref sig .tc := ⟨.hbm, 435, rfl⟩
abbrev main_v269 : Ref sig .tc := ⟨.hbm, 436, rfl⟩
abbrev main_cst_31 : Ref sig .tc := ⟨.hbm, 437, rfl⟩
abbrev main_v270 : Ref sig .tc := ⟨.hbm, 438, rfl⟩
abbrev main_v271 : Ref sig .tc := ⟨.hbm, 439, rfl⟩
abbrev main_call12_v0 : Ref sig .tc := ⟨.hbm, 440, rfl⟩
abbrev main_call12_v1 : Ref sig .tc := ⟨.hbm, 441, rfl⟩
abbrev main_call12_cst : Ref sig .tc := ⟨.hbm, 442, rfl⟩
abbrev main_call12_v2 : Ref sig .tc := ⟨.hbm, 443, rfl⟩
abbrev main_call12_v3 : Ref sig .tc := ⟨.hbm, 444, rfl⟩
abbrev main_call12_cst_0 : Ref sig .tc := ⟨.hbm, 445, rfl⟩
abbrev main_call12_v4 : Ref sig .tc := ⟨.hbm, 446, rfl⟩
abbrev main_call12_v5 : Ref sig .tc := ⟨.hbm, 447, rfl⟩
abbrev main_v272 : Ref sig .tc := ⟨.hbm, 448, rfl⟩
abbrev main_v273 : Ref sig .tc := ⟨.hbm, 449, rfl⟩
abbrev main_v274 : Ref sig .tc := ⟨.hbm, 450, rfl⟩
abbrev main_v275 : Ref sig .tc := ⟨.hbm, 451, rfl⟩
abbrev main_v276 : Ref sig .tc := ⟨.hbm, 452, rfl⟩
abbrev main_v277 : Ref sig .tc := ⟨.hbm, 453, rfl⟩
abbrev main_v278 : Ref sig .tc := ⟨.hbm, 454, rfl⟩
abbrev main_v279 : Ref sig .tc := ⟨.hbm, 455, rfl⟩
abbrev main_v280 : Ref sig .tc := ⟨.hbm, 456, rfl⟩
abbrev main_v281 : Ref sig .tc := ⟨.hbm, 457, rfl⟩
abbrev main_v282 : Ref sig .tc := ⟨.hbm, 458, rfl⟩
abbrev main_v283 : Ref sig .tc := ⟨.hbm, 459, rfl⟩
abbrev main_v284 : Ref sig .tc := ⟨.hbm, 460, rfl⟩
abbrev main_v285 : Ref sig .tc := ⟨.hbm, 461, rfl⟩
abbrev main_v286 : Ref sig .tc := ⟨.hbm, 462, rfl⟩
abbrev main_v287 : Ref sig .tc := ⟨.hbm, 463, rfl⟩
abbrev main_v288 : Ref sig .tc := ⟨.hbm, 464, rfl⟩
abbrev main_v289 : Ref sig .tc := ⟨.hbm, 465, rfl⟩
abbrev main_v290 : Ref sig .tc := ⟨.hbm, 466, rfl⟩
abbrev main_v291 : Ref sig .tc := ⟨.hbm, 467, rfl⟩
abbrev main_v292 : Ref sig .tc := ⟨.hbm, 468, rfl⟩
abbrev main_v293 : Ref sig .tc := ⟨.hbm, 469, rfl⟩
abbrev main_v294 : Ref sig .tc := ⟨.hbm, 470, rfl⟩
abbrev main_v295 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev main_v299 : Ref sig .tc := ⟨.hbm, 475, rfl⟩
abbrev main_v300 : Ref sig .tc := ⟨.hbm, 476, rfl⟩
abbrev main_v301 : Ref sig .tc := ⟨.hbm, 477, rfl⟩
abbrev main_v302 : Ref sig .tc := ⟨.hbm, 478, rfl⟩
abbrev main_v303 : Ref sig .tc := ⟨.hbm, 479, rfl⟩
abbrev main_v304 : Ref sig .tc := ⟨.hbm, 480, rfl⟩
abbrev main_v305 : Ref sig .tc := ⟨.hbm, 481, rfl⟩
abbrev main_v306 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_v310 : Ref sig .tc := ⟨.hbm, 486, rfl⟩
abbrev main_v311 : Ref sig .tc := ⟨.hbm, 487, rfl⟩
abbrev main_v312 : Ref sig .tc := ⟨.hbm, 488, rfl⟩
abbrev main_v313 : Ref sig .tc := ⟨.hbm, 489, rfl⟩
abbrev main_v314 : Ref sig .tc := ⟨.hbm, 490, rfl⟩
abbrev main_v315 : Ref sig .tc := ⟨.hbm, 491, rfl⟩
abbrev main_v316 : Ref sig .tc := ⟨.hbm, 492, rfl⟩
abbrev main_v317 : Ref sig .tc := ⟨.hbm, 493, rfl⟩
abbrev main_v318 : Ref sig .tc := ⟨.hbm, 494, rfl⟩
abbrev main_v319 : Ref sig .tc := ⟨.hbm, 495, rfl⟩
abbrev main_v320 : Ref sig .tc := ⟨.hbm, 496, rfl⟩
abbrev main_v321 : Ref sig .tc := ⟨.hbm, 497, rfl⟩
abbrev main_v322 : Ref sig .tc := ⟨.hbm, 498, rfl⟩
abbrev main_v323 : Ref sig .tc := ⟨.hbm, 499, rfl⟩
abbrev main_v324 : Ref sig .tc := ⟨.hbm, 500, rfl⟩
abbrev main_v325 : Ref sig .tc := ⟨.hbm, 501, rfl⟩
abbrev main_v326 : Ref sig .tc := ⟨.hbm, 502, rfl⟩
abbrev main_v327 : Ref sig .tc := ⟨.hbm, 503, rfl⟩
abbrev main_v328 : Ref sig .tc := ⟨.hbm, 504, rfl⟩
abbrev main_v329 : Ref sig .tc := ⟨.hbm, 505, rfl⟩
abbrev main_v330 : Ref sig .tc := ⟨.hbm, 506, rfl⟩
abbrev main_v331 : Ref sig .tc := ⟨.hbm, 507, rfl⟩
abbrev main_v332 : Ref sig .tc := ⟨.hbm, 508, rfl⟩
abbrev main_v333 : Ref sig .tc := ⟨.hbm, 509, rfl⟩
abbrev main_v334 : Ref sig .tc := ⟨.hbm, 510, rfl⟩
abbrev main_v335 : Ref sig .tc := ⟨.hbm, 511, rfl⟩
abbrev main_v336 : Ref sig .tc := ⟨.hbm, 512, rfl⟩
abbrev main_v337 : Ref sig .tc := ⟨.hbm, 513, rfl⟩
abbrev main_v338 : Ref sig .tc := ⟨.hbm, 514, rfl⟩
abbrev main_v339 : Ref sig .tc := ⟨.hbm, 515, rfl⟩
abbrev main_v340 : Ref sig .tc := ⟨.hbm, 516, rfl⟩
abbrev main_v341 : Ref sig .tc := ⟨.hbm, 517, rfl⟩
abbrev main_v342 : Ref sig .tc := ⟨.hbm, 518, rfl⟩
abbrev main_v343 : Ref sig .tc := ⟨.hbm, 519, rfl⟩
abbrev main_v344 : Ref sig .tc := ⟨.hbm, 520, rfl⟩
abbrev main_v345 : Ref sig .tc := ⟨.hbm, 521, rfl⟩
abbrev main_v346 : Ref sig .tc := ⟨.hbm, 522, rfl⟩
abbrev main_v347 : Ref sig .tc := ⟨.hbm, 523, rfl⟩
abbrev main_v348 : Ref sig .tc := ⟨.hbm, 524, rfl⟩
abbrev main_v349 : Ref sig .tc := ⟨.hbm, 525, rfl⟩
abbrev main_v350 : Ref sig .tc := ⟨.hbm, 526, rfl⟩
abbrev main_v351 : Ref sig .tc := ⟨.hbm, 527, rfl⟩
abbrev main_v352 : Ref sig .tc := ⟨.hbm, 528, rfl⟩
abbrev main_v353 : Ref sig .tc := ⟨.hbm, 529, rfl⟩
abbrev main_v354 : Ref sig .tc := ⟨.hbm, 530, rfl⟩
abbrev main_v355 : Ref sig .tc := ⟨.hbm, 531, rfl⟩
abbrev main_v356 : Ref sig .tc := ⟨.hbm, 532, rfl⟩
abbrev main_v357 : Ref sig .tc := ⟨.hbm, 533, rfl⟩
abbrev main_v358 : Ref sig .tc := ⟨.hbm, 534, rfl⟩
abbrev main_v359 : Ref sig .tc := ⟨.hbm, 535, rfl⟩
abbrev main_v360 : Ref sig .tc := ⟨.hbm, 536, rfl⟩
abbrev main_v361 : Ref sig .tc := ⟨.hbm, 537, rfl⟩
abbrev main_v362 : Ref sig .tc := ⟨.hbm, 538, rfl⟩
abbrev main_v363 : Ref sig .tc := ⟨.hbm, 539, rfl⟩
abbrev main_v364 : Ref sig .tc := ⟨.hbm, 540, rfl⟩
abbrev main_v365 : Ref sig .tc := ⟨.hbm, 541, rfl⟩
abbrev main_v366 : Ref sig .tc := ⟨.hbm, 542, rfl⟩
abbrev main_v367 : Ref sig .tc := ⟨.hbm, 543, rfl⟩
abbrev main_v368 : Ref sig .tc := ⟨.hbm, 544, rfl⟩
abbrev main_v369 : Ref sig .tc := ⟨.hbm, 545, rfl⟩
abbrev main_v370 : Ref sig .tc := ⟨.hbm, 546, rfl⟩

abbrev nD : Nat := 1
abbrev τ : Topo := Topo.v7x

variable {F : FTy → Type} [FloatOps F]
-- ==== Proof.KernelRun.lean ====
/- The idealized kernel's run: from any launch it ends with its two results at the contents the last host operations
   leave, and its arguments unchanged. The launch is the frame's. -/
module

public import proofs.«01_k».proof.Proof.Gen.KernelIdeal.Frame

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The run, with the two results named. -/
theorem kernel_run : θ_run defs (onTc (τ := τ) (main (F := Ideal))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨h c _ (mem_uc main_v24 (by decide)),
       h c _ (mem_uc main_v23 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c)⟩)

end Cert.Proof

end
-- ==== Proof.Spec.lean ====
/- The mathematics both programs compute, written plainly over the extended reals: the activations, the uniform cubic
   B-spline basis (Cox-de Boor), a KAN layer's entry, a width-3 convolution's entry, graph attention over the
   symmetrised top-8 adjacency, layer norm and pooling. The kernel's modules and the reference's both end in these
   functions. -/
module

public import Idealize.ShloMosaic.PureOps.Ideal

@[expose] public section

open scoped BigOperators

noncomputable section

namespace Cert.Proof

open Idealize.ShloMosaic

/-- `x / (1 + e^(-x))`, as a product. -/
def silu (x : EReal) : EReal := x * Ideal.logistic x

/-- The scaled exponential linear unit, its two constants as the programs' words. -/
def selu (x : EReal) : EReal :=
  Ideal.ofBits .f32 0x3F867D5F#32 *
    (if 0 < x then x else Ideal.ofBits .f32 0x3FD62D7D#32 * (Ideal.exp x - 1))

/-- The exponential linear unit. -/
def elu (x : EReal) : EReal := if 0 < x then x else Ideal.exp x - 1

/-- The leaky rectifier of slope 0.2 (the word the programs hold). -/
def leaky (x : EReal) : EReal := if 0 ≤ x then x else Ideal.ofBits .f32 0x3E4CCCCD#32 * x

/-- The `j`-th knot of the uniform grid of spacing `2/5` from `-11/5`. -/
def knot (j : ℕ) : ℝ := (-3 + (j : ℝ)) * (2 / 5) - 1

/-- The B-spline basis function of degree `k` on the knots from the `j`-th on, by the Cox-de Boor recursion. -/
def basis : ℕ → ℕ → EReal → EReal
  | 0, j, x => if (knot j : EReal) ≤ x ∧ x < (knot (j + 1) : EReal) then 1 else 0
  | k + 1, j, x =>
      Ideal.div (x - (knot j : EReal)) ((knot (j + (k + 1)) : EReal) - (knot j : EReal)) * basis k j x
        + Ideal.div ((knot (j + 1 + (k + 1)) : EReal) - x) ((knot (j + 1 + (k + 1)) : EReal) - (knot (j + 1) : EReal))
            * basis k (j + 1) x

/-- One output of a KAN layer on the row `x`: the SiLU term with the weights `b`, the spline term with `w`. -/
def kan (x b : Fin 256 → EReal) (w : Fin 256 → Fin 8 → EReal) : EReal :=
  (∑ i, silu (x i) * b i) + ∑ i, ∑ c : Fin 8, basis 3 c.val (x i) * w i c

/-- The sequence `h` one step earlier, zero before its start. -/
def prev (h : Fin 2048 → EReal) (t : Fin 2048) : EReal :=
  if ht : t.val = 0 then 0 else h ⟨t.val - 1, by omega⟩

/-- The sequence `h` one step later, zero after its end. -/
def next (h : Fin 2048 → EReal) (t : Fin 2048) : EReal :=
  if ht : t.val = 2047 then 0 else h ⟨t.val + 1, by omega⟩

/-- One output channel of a width-3 convolution over 128 channels at time `t`; `w i k` is the weight of input channel
    `i` at tap `k`. -/
def conv (h : Fin 2048 → Fin 128 → EReal) (w : Fin 128 → Fin 3 → EReal) (b : EReal) (t : Fin 2048) : EReal :=
  (∑ i, prev (fun t => h t i) t * w i 0) + (∑ i, h t i * w i 1) + (∑ i, next (fun t => h t i) t * w i 2) + b

/-- A convolution layer with its activation, `w o i k` the weight from channel `i` to channel `o` at tap `k`. -/
def layer (h : Fin 2048 → Fin 128 → EReal) (w : Fin 128 → Fin 128 → Fin 3 → EReal) (b : Fin 128 → EReal)
    (t : Fin 2048) (o : Fin 128) : EReal := selu (conv h (w o) (b o) t)

/-- The mean of eight consecutive time steps. -/
def pool8 (h : Fin 2048 → EReal) (n : Fin 256) : EReal :=
  Ideal.div (∑ k : Fin 8, h ⟨n.val * 8 + k.val, by omega⟩) (Ideal.ofBits .f32 0x41000000#32)

/-- The graph's nodes: two convolution layers, pooled by eight, with the position table added. -/
def nodes (h : Fin 2048 → Fin 128 → EReal) (w₁ : Fin 128 → Fin 128 → Fin 3 → EReal) (b₁ : Fin 128 → EReal)
    (w₂ : Fin 128 → Fin 128 → Fin 3 → EReal) (b₂ : Fin 128 → EReal) (p : Fin 256 → Fin 128 → EReal)
    (n : Fin 256) (o : Fin 128) : EReal := pool8 (fun t => layer (layer h w₁ b₁) w₂ b₂ t o) n + p n o

/-- The score of two nodes: their inner product. -/
def score (h : Fin 256 → Fin 128 → EReal) (n m : Fin 256) : EReal := ∑ d, h n d * h m d

/-- `m` is among the eight best of the row `s`: fewer than eight entries lie strictly above it. -/
def top (s : Fin 256 → EReal) (m : Fin 256) : Prop := (Finset.univ.filter fun j => s m < s j).card < 8

/-- Adjacency: one of the two nodes ranks the other among its eight best, or they are the same. -/
def adj (s : Fin 256 → Fin 256 → EReal) (n m : Fin 256) : Prop := top (s n) m ∨ top (s m) n ∨ n = m

open Classical in
/-- The attention logit: the rectified sum of the two ends' terms on the graph, a large negative word off it. -/
def logit (A : Fin 256 → Fin 256 → Prop) (p q : Fin 256 → EReal) (n m : Fin 256) : EReal :=
  if A n m then leaky (p n + q m) else Ideal.ofBits .f32 0xCE6E6B28#32

/-- The softmax of a row at an entry, by the row's maximum. -/
def softmax (e : Fin 256 → EReal) (m : Fin 256) : EReal :=
  Ideal.div (Ideal.exp (e m - Finset.univ.sup e)) (∑ k, Ideal.exp (e k - Finset.univ.sup e))

/-- A linear map's entry. -/
def lin (h : Fin 256 → Fin 128 → EReal) (w : Fin 128 → Fin 128 → EReal) (n : Fin 256) (d : Fin 128) : EReal :=
  ∑ k, h n k * w k d

/-- One graph-attention layer with a residual, its linear image `z` of the nodes `h` given. -/
def gat (A : Fin 256 → Fin 256 → Prop) (h z : Fin 256 → Fin 128 → EReal) (a b : Fin 128 → EReal) (n : Fin 256)
    (d : Fin 128) : EReal :=
  h n d + elu (∑ m, softmax (logit A (fun n => ∑ k, z n k * a k) (fun n => ∑ k, z n k * b k) n) m * z m d)

/-- The mean of a row of 128. -/
def mean (x : Fin 128 → EReal) : EReal := Ideal.div (∑ d, x d) (Ideal.ofBits .f32 0x43000000#32)

/-- The variance of a row of 128. -/
def var (x : Fin 128 → EReal) : EReal :=
  Ideal.div (∑ d, (x d - mean x) * (x d - mean x)) (Ideal.ofBits .f32 0x43000000#32)

/-- Layer norm of a row of 128 with scale `g` and shift `b`. -/
def norm (x g b : Fin 128 → EReal) (d : Fin 128) : EReal :=
  (x d - mean x) * Ideal.rsqrt (var x + Ideal.ofBits .f32 0x3727C5AC#32) * g d + b d

/-- The nodes after two graph-attention layers on their own adjacency and the layer norm. -/
def rows (h : Fin 256 → Fin 128 → EReal) (w₁ : Fin 128 → Fin 128 → EReal) (a₁ b₁ : Fin 128 → EReal)
    (w₂ : Fin 128 → Fin 128 → EReal) (a₂ b₂ g s : Fin 128 → EReal) (n : Fin 256) (d : Fin 128) : EReal :=
  norm (gat (adj (score h)) (gat (adj (score h)) h (lin h w₁) a₁ b₁)
    (lin (gat (adj (score h)) h (lin h w₁) a₁ b₁) w₂) a₂ b₂ n) g s d

/-- The pooled embedding: the mean of the nodes, then their maximum. -/
def pooled (y : Fin 256 → Fin 128 → EReal) (j : Fin 256) : EReal :=
  if hj : j.val < 128 then Ideal.div (∑ n, y n ⟨j.val, hj⟩) (Ideal.ofBits .f32 0x43800000#32)
  else Finset.univ.sup fun n => y n ⟨j.val - 128, by omega⟩

end Cert.Proof

end
-- ==== Proof.Spline.lean ====
/- The closed form of the uniform cubic B-spline basis (four cubic pieces selected by the integer part of the shifted,
   scaled argument) equals the Cox-de Boor recursion, at every extended real. -/
module

public import proofs.«01_k».proof.Proof.Spec
public import Mathlib.Tactic.Linarith
public import Mathlib.Tactic.FieldSimp
public import Mathlib.Tactic.Positivity
public import Mathlib.Algebra.Order.Floor.Ring

@[expose] public section

noncomputable section

namespace Cert.Proof

open Idealize.ShloMosaic

/-- The argument in units of the knot spacing, from the first knot. -/
def unitArg (x : EReal) : EReal := (x - ((-11 / 5 : ℝ) : EReal)) * ((5 / 2 : ℝ) : EReal)

/-- Its integer part. -/
def cell (x : EReal) : EReal := Ideal.liftRound Int.floor (unitArg x)

/-- Its fractional part. -/
def frac (x : EReal) : EReal := unitArg x - cell x

/-- One where the argument lies in the `m`-th cell. -/
def inCell (m : ℝ) (x : EReal) : EReal := if cell x = (m : EReal) then 1 else 0

/-- A basis function on its first cell. -/
def piece0 (t : EReal) : EReal := t * t * t * ((1 / 6 : ℝ) : EReal)

/-- A basis function on its second cell. -/
def piece1 (t : EReal) : EReal :=
  (((((-3 : ℝ) : EReal) * t + ((3 : ℝ) : EReal)) * t + ((3 : ℝ) : EReal)) * t + 1) * ((1 / 6 : ℝ) : EReal)

/-- A basis function on its third cell. -/
def piece2 (t : EReal) : EReal :=
  ((((3 : ℝ) : EReal) * t - ((6 : ℝ) : EReal)) * (t * t) + ((4 : ℝ) : EReal)) * ((1 / 6 : ℝ) : EReal)

/-- A basis function on its last cell. -/
def piece3 (t : EReal) : EReal := (1 - t) * (1 - t) * (1 - t) * ((1 / 6 : ℝ) : EReal)

/-- The closed form of the `c`-th cubic basis function. -/
def closed (a b c d : ℝ) (x : EReal) : EReal :=
  piece0 (frac x) * inCell a x + piece1 (frac x) * inCell b x + piece2 (frac x) * inCell c x
    + piece3 (frac x) * inCell d x

/-- The basis function of degree `k` with unit spacing, as a real function of the distance from its first knot. -/
def unitBasis : ℕ → ℝ → ℝ
  | 0, s => if 0 ≤ s ∧ s < 1 then 1 else 0
  | k + 1, s => s / (k + 1) * unitBasis k s + (k + 2 - s) / (k + 1) * unitBasis k (s - 1)

theorem basis_coe (k j : ℕ) (x : ℝ) :
    basis k j (x : EReal) = ((unitBasis k ((x + 11 / 5) * (5 / 2) - j) : ℝ) : EReal) := by
  induction k generalizing j with
  | zero =>
    have h1 : ((knot j : ℝ) : EReal) ≤ (x : EReal) ↔ 0 ≤ (x + 11 / 5) * (5 / 2) - (j : ℝ) := by
      rw [EReal.coe_le_coe_iff, knot]; constructor <;> intro h <;> linarith
    have h2 : (x : EReal) < ((knot (j + 1) : ℝ) : EReal) ↔ (x + 11 / 5) * (5 / 2) - (j : ℝ) < 1 := by
      rw [EReal.coe_lt_coe_iff, knot]; push_cast; constructor <;> intro h <;> linarith
    simp only [basis, unitBasis, h1, h2]
    split_ifs <;> simp
  | succ k ih =>
    have d1 : knot (j + (k + 1)) - knot j = (k + 1) * (2 / 5) := by simp only [knot]; push_cast; ring
    have d2 : knot (j + 1 + (k + 1)) - knot (j + 1) = (k + 1) * (2 / 5) := by simp only [knot]; push_cast; ring
    have hk : ((k : ℝ) + 1) * (2 / 5) ≠ 0 := by positivity
    have hk' : (k : ℝ) + 1 ≠ 0 := by positivity
    rw [basis, unitBasis, ih, ih, ← EReal.coe_sub, ← EReal.coe_sub, ← EReal.coe_sub, ← EReal.coe_sub, d1, d2,
      Ideal.div_coe hk, Ideal.div_coe hk, ← EReal.coe_mul, ← EReal.coe_mul, ← EReal.coe_mul, ← EReal.coe_mul,
      ← EReal.coe_add]
    congr 1
    have e : (x + 11 / 5) * (5 / 2) - (j : ℝ) - 1 = (x + 11 / 5) * (5 / 2) - ((j + 1 : ℕ) : ℝ) := by push_cast; ring
    rw [e]
    have e1 : (x - knot j) * (1 / ((k + 1) * (2 / 5))) = ((x + 11 / 5) * (5 / 2) - j) / (k + 1) := by
      simp only [knot]; field_simp; ring
    have e2 : (knot (j + 1 + (k + 1)) - x) * (1 / ((k + 1) * (2 / 5)))
        = (k + 2 - ((x + 11 / 5) * (5 / 2) - j)) / (k + 1) := by
      simp only [knot]; push_cast; field_simp; ring
    rw [e1, e2]

theorem basis_top (k j : ℕ) : basis k j ⊤ = 0 := by
  induction k generalizing j with
  | zero => simp [basis]
  | succ k ih => simp [basis, ih]

theorem basis_bot (k j : ℕ) : basis k j ⊥ = 0 := by
  induction k generalizing j with
  | zero => simp [basis]
  | succ k ih => simp [basis, ih]

/-- The real form of the closed basis: the cubic pieces by the cell of the distance `s`. -/
theorem unitBasis_three (s : ℝ) :
    unitBasis 3 s
      = (if ⌊s⌋ = 0 then Int.fract s ^ 3 / 6 else 0)
        + (if ⌊s⌋ = 1 then (((-3 * Int.fract s + 3) * Int.fract s + 3) * Int.fract s + 1) / 6 else 0)
        + (if ⌊s⌋ = 2 then ((3 * Int.fract s - 6) * Int.fract s ^ 2 + 4) / 6 else 0)
        + (if ⌊s⌋ = 3 then (1 - Int.fract s) ^ 3 / 6 else 0) := by
  have key : ∀ n : ℤ, ⌊s⌋ = n ↔ (n : ℝ) ≤ s ∧ s < n + 1 := fun n => Int.floor_eq_iff
  simp only [unitBasis]
  by_cases h0 : ⌊s⌋ = 0
  · have h := (key 0).1 h0
    have hf : Int.fract s = s := by rw [Int.fract, h0]; simp
    push_cast at h
    rw [h0, hf]
    rw [if_pos (by constructor <;> linarith), if_neg (by intro h'; linarith [h'.1]),
      if_neg (by intro h'; linarith [h'.1]), if_neg (by intro h'; linarith [h'.1])]
    norm_num; ring
  by_cases h1 : ⌊s⌋ = 1
  · have h := (key 1).1 h1
    have hf : Int.fract s = s - 1 := by rw [Int.fract, h1]; simp
    push_cast at h
    rw [h1, hf]
    rw [if_neg (by intro h'; linarith [h'.2]), if_pos (by constructor <;> linarith),
      if_neg (by intro h'; linarith [h'.1]), if_neg (by intro h'; linarith [h'.1])]
    norm_num; ring
  by_cases h2 : ⌊s⌋ = 2
  · have h := (key 2).1 h2
    have hf : Int.fract s = s - 2 := by rw [Int.fract, h2]; simp
    push_cast at h
    rw [h2, hf]
    rw [if_neg (by intro h'; linarith [h'.2]), if_neg (by intro h'; linarith [h'.2]),
      if_pos (by constructor <;> linarith), if_neg (by intro h'; linarith [h'.1])]
    norm_num; ring
  by_cases h3 : ⌊s⌋ = 3
  · have h := (key 3).1 h3
    have hf : Int.fract s = s - 3 := by rw [Int.fract, h3]; simp
    push_cast at h
    rw [h3, hf]
    rw [if_neg (by intro h'; linarith [h'.2]), if_neg (by intro h'; linarith [h'.2]),
      if_neg (by intro h'; linarith [h'.2]), if_pos (by constructor <;> linarith)]
    norm_num; ring
  · rw [if_neg h0, if_neg h1, if_neg h2, if_neg h3]
    rw [key] at h0 h1 h2 h3
    push_cast at h0 h1 h2 h3
    rw [if_neg (by intro h'; exact h0 ⟨by linarith [h'.1], by linarith [h'.2]⟩),
      if_neg (by intro h'; exact h1 ⟨by linarith [h'.1], by linarith [h'.2]⟩),
      if_neg (by intro h'; exact h2 ⟨by linarith [h'.1], by linarith [h'.2]⟩),
      if_neg (by intro h'; exact h3 ⟨by linarith [h'.1], by linarith [h'.2]⟩)]
    norm_num

theorem unitArg_coe (x : ℝ) : unitArg (x : EReal) = (((x + 11 / 5) * (5 / 2) : ℝ) : EReal) := by
  rw [unitArg, ← EReal.coe_sub, ← EReal.coe_mul]; congr 1; ring

theorem cell_coe (x : ℝ) : cell (x : EReal) = ((⌊(x + 11 / 5) * (5 / 2)⌋ : ℝ) : EReal) := by
  rw [cell, unitArg_coe]; rfl

theorem frac_coe (x : ℝ) : frac (x : EReal) = ((Int.fract ((x + 11 / 5) * (5 / 2)) : ℝ) : EReal) := by
  rw [frac, unitArg_coe, cell_coe, ← EReal.coe_sub]; rfl

theorem inCell_coe (j n : ℕ) (x : ℝ) :
    inCell ((j : ℝ) + n) (x : EReal)
      = (((if ⌊(x + 11 / 5) * (5 / 2) - (j : ℝ)⌋ = n then 1 else 0 : ℝ)) : EReal) := by
  rw [inCell, cell_coe, Int.floor_sub_natCast]
  have h : ((⌊(x + 11 / 5) * (5 / 2)⌋ : ℝ) : EReal) = (((j : ℝ) + n : ℝ) : EReal)
      ↔ ⌊(x + 11 / 5) * (5 / 2)⌋ - (j : ℤ) = n := by
    rw [EReal.coe_eq_coe_iff]
    constructor
    · intro h
      have : (⌊(x + 11 / 5) * (5 / 2)⌋ : ℤ) = (j : ℤ) + n := by exact_mod_cast h
      omega
    · intro h
      have : (⌊(x + 11 / 5) * (5 / 2)⌋ : ℤ) = (j : ℤ) + n := by omega
      exact_mod_cast this
  simp only [h]
  split_ifs <;> simp

theorem inCell_top (m : ℝ) : inCell m ⊤ = 0 := by
  have : cell ⊤ = ⊤ := by
    rw [cell, unitArg, EReal.top_sub_coe, EReal.top_mul_coe_of_pos (by norm_num)]; rfl
  rw [inCell, this, if_neg (EReal.coe_ne_top m).symm]

theorem inCell_bot (m : ℝ) : inCell m ⊥ = 0 := by
  have : cell ⊥ = ⊥ := by
    rw [cell, unitArg, EReal.bot_sub, EReal.bot_mul_coe_of_pos (by norm_num)]; rfl
  rw [inCell, this, if_neg (EReal.coe_ne_bot m).symm]

/-- The closed form is the recursion's cubic basis function. -/
theorem closed_eq_basis (j : ℕ) (x : EReal) :
    closed ((j : ℝ) + (0 : ℕ)) ((j : ℝ) + (1 : ℕ)) ((j : ℝ) + (2 : ℕ)) ((j : ℝ) + (3 : ℕ)) x = basis 3 j x := by
  induction x with
  | bot => simp only [closed, inCell_bot, basis_bot, mul_zero, add_zero]
  | top => simp only [closed, inCell_top, basis_top, mul_zero, add_zero]
  | coe x =>
    have hfr : Int.fract ((x + 11 / 5) * (5 / 2) - (j : ℝ)) = Int.fract ((x + 11 / 5) * (5 / 2)) :=
      Int.fract_sub_natCast _ _
    rw [basis_coe, unitBasis_three, hfr]
    simp only [closed, inCell_coe, frac_coe, piece0, piece1, piece2, piece3]
    rw [← EReal.coe_one]
    simp only [← EReal.coe_mul, ← EReal.coe_add, ← EReal.coe_sub]
    congr 1
    push_cast
    simp only [mul_ite, mul_one, mul_zero]
    congr 1
    · congr 1
      · congr 1
        · split_ifs <;> ring
        · split_ifs <;> ring
      · split_ifs <;> ring
    · split_ifs <;> ring

theorem closed_zero (x : EReal) : closed 0 1 2 3 x = basis 3 0 x := by
  have h := closed_eq_basis 0 x; norm_num at h; exact h
theorem closed_one (x : EReal) : closed 1 2 3 4 x = basis 3 1 x := by
  have h := closed_eq_basis 1 x; norm_num at h; exact h
theorem closed_two (x : EReal) : closed 2 3 4 5 x = basis 3 2 x := by
  have h := closed_eq_basis 2 x; norm_num at h; exact h
theorem closed_three (x : EReal) : closed 3 4 5 6 x = basis 3 3 x := by
  have h := closed_eq_basis 3 x; norm_num at h; exact h
theorem closed_four (x : EReal) : closed 4 5 6 7 x = basis 3 4 x := by
  have h := closed_eq_basis 4 x; norm_num at h; exact h
theorem closed_five (x : EReal) : closed 5 6 7 8 x = basis 3 5 x := by
  have h := closed_eq_basis 5 x; norm_num at h; exact h
theorem closed_six (x : EReal) : closed 6 7 8 9 x = basis 3 6 x := by
  have h := closed_eq_basis 6 x; norm_num at h; exact h
theorem closed_seven (x : EReal) : closed 7 8 9 10 x = basis 3 7 x := by
  have h := closed_eq_basis 7 x; norm_num at h; exact h

/-- A sum over `m` blocks of `n`, by block and place. -/
theorem sum_blocks (m n : ℕ) (f : Fin (m * n) → EReal) :
    ∑ k, f k = ∑ i : Fin n, ∑ c : Fin m, f ⟨c.val * n + i.val, by
      have := c.isLt; have := i.isLt; nlinarith [Nat.mul_le_mul_right n (Nat.succ_le_of_lt c.isLt)]⟩ := by
  rw [← Equiv.sum_comp finProdFinEquiv f, Fintype.sum_prod_type, Finset.sum_comm]
  refine Finset.sum_congr rfl fun i _ => Finset.sum_congr rfl fun c _ => congrArg f (Fin.ext ?_)
  simp [finProdFinEquiv, Nat.mul_comm, Nat.add_comm]

end Cert.Proof

end
-- ==== Proof.Consts.lean ====
/- The float words of the two programs read as extended reals, the named constants' values, and the small scalar
   readings (a comparison bit as 0 or 1) every block's reading uses. -/
module

public import proofs.«01_k».proof.Defs
public import proofs.«01_k».proof.Proof.Spec
public import Idealize.ShloMosaic.PureOps.IdealRules
public import Idealize.ShloMosaic.PureOps.Ideal.Laws
public import Idealize.ShloMosaic.Lib.IdealHost

@[expose] public section

noncomputable section

namespace Cert.Proof

open Idealize.ShloMosaic

theorem w_two : Ideal.ofBits .f32 0x40000000#32 = ((2 : ℝ) : EReal) := by
  simp [Ideal.ofBits, Ideal.ieee, -EReal.coe_mul]; norm_num
theorem w_three : Ideal.ofBits .f32 0x40400000#32 = ((3 : ℝ) : EReal) := by
  simp [Ideal.ofBits, Ideal.ieee, -EReal.coe_mul]; norm_num
theorem w_neg_three : Ideal.ofBits .f32 0xC0400000#32 = ((-3 : ℝ) : EReal) := by
  simp [Ideal.ofBits, Ideal.ieee, -EReal.coe_mul]; norm_num
theorem w_four : Ideal.ofBits .f32 0x40800000#32 = ((4 : ℝ) : EReal) := by
  simp [Ideal.ofBits, Ideal.ieee, -EReal.coe_mul]; norm_num
theorem w_five : Ideal.ofBits .f32 0x40A00000#32 = ((5 : ℝ) : EReal) := by
  simp [Ideal.ofBits, Ideal.ieee, -EReal.coe_mul]; norm_num
theorem w_six : Ideal.ofBits .f32 0x40C00000#32 = ((6 : ℝ) : EReal) := by
  simp [Ideal.ofBits, Ideal.ieee, -EReal.coe_mul]; norm_num
theorem w_seven : Ideal.ofBits .f32 0x40E00000#32 = ((7 : ℝ) : EReal) := by
  simp [Ideal.ofBits, Ideal.ieee, -EReal.coe_mul]; norm_num
theorem w_eight : Ideal.ofBits .f32 0x41000000#32 = ((8 : ℝ) : EReal) := by
  simp [Ideal.ofBits, Ideal.ieee, -EReal.coe_mul]; norm_num
theorem w_nine : Ideal.ofBits .f32 0x41100000#32 = ((9 : ℝ) : EReal) := by
  simp [Ideal.ofBits, Ideal.ieee, -EReal.coe_mul]; norm_num
theorem w_ten : Ideal.ofBits .f32 0x41200000#32 = ((10 : ℝ) : EReal) := by
  simp [Ideal.ofBits, Ideal.ieee, -EReal.coe_mul]; norm_num
theorem w_five_halves : Ideal.ofBits .f32 0x40200000#32 = ((5 / 2 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_128 : Ideal.ofBits .f32 0x43000000#32 = ((128 : ℝ) : EReal) := by
  simp [Ideal.ofBits, Ideal.ieee, -EReal.coe_mul]; norm_num
theorem w_neg_inf : Ideal.ofBits .f32 0xFF800000#32 = ⊥ := by
  simp [Ideal.ofBits, Ideal.ieee]
theorem w_eps_pos : 0 < Ideal.ofBits .f32 0x3727C5AC#32 := by
  have : Ideal.ofBits .f32 0x3727C5AC#32 = ((10995116 * (2 : ℝ) ^ (-40 : ℤ) : ℝ) : EReal) := by
    simp [Ideal.ofBits, Ideal.ieee, -EReal.coe_mul]
  rw [this, EReal.coe_pos]; positivity

/-- The first knot's named value. -/
theorem k_g0 : Named.named (F := Ideal) (φ := .f32) Cert.KernelIdeal.κ "g0" 0xC00CCCCD#32 = ((-11 / 5 : ℝ) : EReal) :=
  IdealRules.named_const.ideal_named_scalar _ _ _ _ rfl

/-- A sixth. -/
theorem k_sixth : Named.named (F := Ideal) (φ := .f32) Cert.KernelIdeal.κ "sixth" 0x3E2AAAAB#32 = ((1 / 6 : ℝ) : EReal) :=
  IdealRules.named_const.ideal_named_scalar _ _ _ _ rfl

/-- The mask: minus infinity. -/
theorem k_mask : Named.named (F := Ideal) (φ := .f32) Cert.KernelIdeal.κ "mask" 0xF149F2CA#32 = (⊥ : EReal) :=
  IdealRules.named_const.ideal_named_scalar _ _ _ _ rfl

/-- A comparison bit widened to a word and read as a signed integer is 0 or 1. -/
theorem ind_signed (p : Bool) :
    ((((BitVec.ofBool p).setWidth 32).toInt : ℝ) : EReal) = if p then 1 else 0 := by
  cases p <;> simp

/-- A comparison bit read as an unsigned integer is 0 or 1. -/
theorem ind_unsigned (p : Bool) : (((BitVec.ofBool p).toNat : ℝ) : EReal) = if p then 1 else 0 := by
  cases p <;> simp

theorem sitofp_ind (p : Prop) [Decidable p] :
    FloatOps.sitofp (F := Ideal) FTy.f32 (BitVec.setWidth 32 (BitVec.ofBool (decide p))) = if p then 1 else 0 := by
  refine (ind_signed (decide p)).trans ?_
  simp only [decide_eq_true_eq]

end Cert.Proof

end
-- ==== Proof.Bridge.lean ====
/- What one block of the first kernel region computes: 512 rows of the bridge layer. -/
module

public import proofs.«01_k».proof.Proof.Spline
public import proofs.«01_k».proof.Proof.Consts
public import proofs.«01_k».proof.Proof.Gen.KernelIdeal.Frame
public import Idealize.ShloMosaic.Lib.Pointwise

@[expose] public section

open scoped BigOperators

noncomputable section

namespace Cert.Proof

open Idealize.ShloMosaic Cert.KernelIdeal Cert.KernelIdeal.Gen

section cells
variable (x : Vec Ideal S512x256 .f32) (r : Fin 512) (i : Fin 256)

theorem b_cell : k0_pay5 x (ix2 r i) = cell (x (ix2 r i)) := by
  pointwise [k0_pay5, k0_pay4, k0_pay2]
  rw [k_g0, w_five_halves]; rfl

theorem b_frac : k0_pay6 x (ix2 r i) = frac (x (ix2 r i)) := by
  have h := b_cell x r i
  pointwise [k0_pay6, k0_pay4, k0_pay2]
  rw [h, k_g0, w_five_halves]; rfl

theorem b_piece0 : k0_pay8 x (ix2 r i) = piece0 (frac (x (ix2 r i))) := by
  have h := b_frac x r i
  pointwise [k0_pay8, k0_pay7]
  rw [h, k_sixth]; rfl

theorem b_piece3 : k0_pay9 x (ix2 r i) = piece3 (frac (x (ix2 r i))) := by
  have h := b_frac x r i
  pointwise [k0_pay9]
  rw [h, k_sixth]; rfl

theorem b_piece1 : k0_pay10 x (ix2 r i) = piece1 (frac (x (ix2 r i))) := by
  have h := b_frac x r i
  pointwise [k0_pay10]
  rw [h, k_sixth, w_three, w_neg_three]; rfl

theorem b_piece2 : k0_pay13 (k0_pay11 x) k0_pay12 (ix2 r i) = piece2 (frac (x (ix2 r i))) := by
  have h := b_frac x r i
  pointwise [k0_pay13, k0_pay11, k0_pay12, k0_pay7]
  rw [h, k_sixth, w_three, w_four, w_six]; rfl

theorem b_in0 : k0_pay24 (k0_pay5 x) (k0_pay8 x) (ix2 r i) = piece0 (frac (x (ix2 r i))) * inCell 0 (x (ix2 r i)) := by
  have h := b_cell x r i
  have h' := b_piece0 x r i
  pointwise [k0_pay24]
  rw [h, h']; rw [sitofp_ind]; unfold inCell; congr
theorem b_in1 : k0_pay14 (k0_pay5 x) (ix2 r i) = inCell 1 (x (ix2 r i)) := by
  have h := b_cell x r i
  pointwise [k0_pay14]
  rw [h]; rw [sitofp_ind]; unfold inCell; congr
theorem b_in2 : k0_pay15 (k0_pay5 x) (ix2 r i) = inCell 2 (x (ix2 r i)) := by
  have h := b_cell x r i
  pointwise [k0_pay15]
  rw [h, w_two]; rw [sitofp_ind]; unfold inCell; congr
theorem b_in3 : k0_pay16 (k0_pay5 x) (ix2 r i) = inCell 3 (x (ix2 r i)) := by
  have h := b_cell x r i
  pointwise [k0_pay16]
  rw [h, w_three]; rw [sitofp_ind]; unfold inCell; congr
theorem b_in4 : k0_pay17 (k0_pay5 x) (ix2 r i) = inCell 4 (x (ix2 r i)) := by
  have h := b_cell x r i
  pointwise [k0_pay17]
  rw [h, w_four]; rw [sitofp_ind]; unfold inCell; congr
theorem b_in5 : k0_pay18 (k0_pay5 x) (ix2 r i) = inCell 5 (x (ix2 r i)) := by
  have h := b_cell x r i
  pointwise [k0_pay18]
  rw [h, w_five]; rw [sitofp_ind]; unfold inCell; congr
theorem b_in6 : k0_pay19 (k0_pay5 x) (ix2 r i) = inCell 6 (x (ix2 r i)) := by
  have h := b_cell x r i
  pointwise [k0_pay19]
  rw [h, w_six]; rw [sitofp_ind]; unfold inCell; congr
theorem b_in7 : k0_pay20 (k0_pay5 x) (ix2 r i) = inCell 7 (x (ix2 r i)) := by
  have h := b_cell x r i
  pointwise [k0_pay20]
  rw [h, w_seven]; rw [sitofp_ind]; unfold inCell; congr
theorem b_in8 : k0_pay21 (k0_pay5 x) (ix2 r i) = inCell 8 (x (ix2 r i)) := by
  have h := b_cell x r i
  pointwise [k0_pay21]
  rw [h, w_eight]; rw [sitofp_ind]; unfold inCell; congr
theorem b_in9 : k0_pay22 (k0_pay5 x) (ix2 r i) = inCell 9 (x (ix2 r i)) := by
  have h := b_cell x r i
  pointwise [k0_pay22]
  rw [h, w_nine]; rw [sitofp_ind]; unfold inCell; congr
theorem b_in10 : k0_pay23 (k0_pay5 x) (ix2 r i) = inCell 10 (x (ix2 r i)) := by
  have h := b_cell x r i
  pointwise [k0_pay23]
  rw [h, w_ten]; rw [sitofp_ind]; unfold inCell; congr

end cells

/-- The stacked basis values of a block, at row `r` and stacked column `o`. -/
theorem b_basis (x : Vec Ideal S512x256 .f32) (r : Fin 512) (o : Fin 2048) :
    k0_pay25 (k0_pay8 x) (k0_pay9 x) (k0_pay10 x) (k0_pay13 (k0_pay11 x) k0_pay12) (k0_pay14 (k0_pay5 x))
      (k0_pay15 (k0_pay5 x)) (k0_pay16 (k0_pay5 x)) (k0_pay17 (k0_pay5 x)) (k0_pay18 (k0_pay5 x)) (k0_pay19 (k0_pay5 x))
      (k0_pay20 (k0_pay5 x)) (k0_pay21 (k0_pay5 x)) (k0_pay22 (k0_pay5 x)) (k0_pay23 (k0_pay5 x))
      (k0_pay24 (k0_pay5 x) (k0_pay8 x)) (ix2 r o)
      = basis 3 (o.val / 256) (x (ix2 r ⟨o.val % 256, Nat.mod_lt _ (by norm_num)⟩)) := by
  pointwise [k0_pay25]
  simp only [b_piece0, b_piece1, b_piece2, b_piece3, b_in0, b_in1, b_in2, b_in3, b_in4, b_in5, b_in6, b_in7, b_in8,
    b_in9, b_in10]
  have ho := o.isLt
  have key : ∀ (c n : ℕ) (hn : n < 256), o.val = c * 256 + n → ∀ v, v = basis 3 c (x (ix2 r ⟨n, hn⟩)) →
      v = basis 3 (o.val / 256) (x (ix2 r ⟨o.val % 256, Nat.mod_lt _ (by norm_num)⟩)) := by
    intro c n hn h v hv
    have h1 : o.val / 256 = c := by omega
    have h2 : (⟨o.val % 256, Nat.mod_lt _ (by norm_num)⟩ : Fin 256) = ⟨n, hn⟩ :=
      Fin.ext (by show o.val % 256 = n; omega)
    rw [h1, h2]; exact hv
  by_cases h0 : o.val < 256
  · rw [dif_pos h0]
    refine key 0 (o.val) (by omega) (by omega) _ ?_
    rw [← closed_zero]; rfl
  by_cases h1 : o.val - 256 < 256
  · rw [dif_neg h0, dif_pos h1]
    refine key 1 (o.val - 256) (by omega) (by omega) _ ?_
    rw [← closed_one]; rfl
  by_cases h2 : o.val - 256 - 256 < 256
  · rw [dif_neg h0, dif_neg h1, dif_pos h2]
    refine key 2 (o.val - 256 - 256) (by omega) (by omega) _ ?_
    rw [← closed_two]; rfl
  by_cases h3 : o.val - 256 - 256 - 256 < 256
  · rw [dif_neg h0, dif_neg h1, dif_neg h2, dif_pos h3]
    refine key 3 (o.val - 256 - 256 - 256) (by omega) (by omega) _ ?_
    rw [← closed_three]; rfl
  by_cases h4 : o.val - 256 - 256 - 256 - 256 < 256
  · rw [dif_neg h0, dif_neg h1, dif_neg h2, dif_neg h3, dif_pos h4]
    refine key 4 (o.val - 256 - 256 - 256 - 256) (by omega) (by omega) _ ?_
    rw [← closed_four]; rfl
  by_cases h5 : o.val - 256 - 256 - 256 - 256 - 256 < 256
  · rw [dif_neg h0, dif_neg h1, dif_neg h2, dif_neg h3, dif_neg h4, dif_pos h5]
    refine key 5 (o.val - 256 - 256 - 256 - 256 - 256) (by omega) (by omega) _ ?_
    rw [← closed_five]; rfl
  by_cases h6 : o.val - 256 - 256 - 256 - 256 - 256 - 256 < 256
  · rw [dif_neg h0, dif_neg h1, dif_neg h2, dif_neg h3, dif_neg h4, dif_neg h5, dif_pos h6]
    refine key 6 (o.val - 256 - 256 - 256 - 256 - 256 - 256) (by omega) (by omega) _ ?_
    rw [← closed_six]; rfl
  rw [dif_neg h0, dif_neg h1, dif_neg h2, dif_neg h3, dif_neg h4, dif_neg h5, dif_neg h6]
  refine key 7 (o.val - 256 - 256 - 256 - 256 - 256 - 256 - 256) (by omega) (by omega) _ ?_
  rw [← closed_seven]; rfl

/-- The block's store is one of its whole staging buffer, and its loads are of whole blocks. -/
theorem out0_eq (x : Vec Ideal S512x256 .f32) (b : Vec Ideal S256x128 .f32) (w : Vec Ideal S2048x128 .f32) :
    out0_3 x b w = k0_pay1 (k0_pay3 x b)
      (k0_pay25 (k0_pay8 x) (k0_pay9 x) (k0_pay10 x) (k0_pay13 (k0_pay11 x) k0_pay12) (k0_pay14 (k0_pay5 x))
      (k0_pay15 (k0_pay5 x)) (k0_pay16 (k0_pay5 x)) (k0_pay17 (k0_pay5 x)) (k0_pay18 (k0_pay5 x)) (k0_pay19 (k0_pay5 x))
      (k0_pay20 (k0_pay5 x)) (k0_pay21 (k0_pay5 x)) (k0_pay22 (k0_pay5 x)) (k0_pay23 (k0_pay5 x))
      (k0_pay24 (k0_pay5 x) (k0_pay8 x))) (k0_pay26 w) := by
  unfold out0_3 k0_pay28 k0_pay27
  have hz : (![0, 0] : Fin 2 → ℕ) = fun _ => 0 := by funext a; fin_cases a <;> rfl
  rw [View.ld_unit_zero (S := S512x256) hz, View.ld_unit_zero (S := S256x128) hz, View.ld_unit_zero (S := S2048x128) hz]
  exact View.canon_unit_zero (S := S512x128) hz _ _

/-- One entry of a block: the bridge layer on the block's row. -/
theorem bridge_block (x : Vec Ideal S512x256 .f32) (b : Vec Ideal S256x128 .f32) (w : Vec Ideal S2048x128 .f32)
    (r : Fin 512) (o : Fin 128) :
    out0_3 x b w (ix2 r o) = kan (fun i => x (ix2 r i)) (fun i => b (ix2 i o))
      (fun i c => w (ix2 ⟨c.val * 256 + i.val, by omega⟩ o)) := by
  have h1 : k0_pay3 x b (ix2 r o) = ∑ i, silu (x (ix2 r i)) * b (ix2 i o) := by
    pointwise [k0_pay3, k0_pay2, silu]
  rw [out0_eq]
  have h2 := b_basis x r
  generalize k0_pay25 (k0_pay8 x) _ _ _ _ _ _ _ _ _ _ _ _ _ _ = v at h2 ⊢
  pointwise [k0_pay1, k0_pay26]
  simp only [h1, h2]
  unfold kan
  congr 1
  refine (sum_blocks 8 256 _).trans ?_
  refine Finset.sum_congr rfl fun i _ => Finset.sum_congr rfl fun c _ => ?_
  have hi := i.isLt
  have e1 : (c.val * 256 + i.val) / 256 = c.val := by omega
  have e2 : (⟨(c.val * 256 + i.val) % 256, Nat.mod_lt _ (by norm_num)⟩ : Fin 256) = i :=
    Fin.ext (by show (c.val * 256 + i.val) % 256 = i.val; omega)
  show basis 3 ((c.val * 256 + i.val) / 256)
    (x (ix2 r ⟨(c.val * 256 + i.val) % 256, Nat.mod_lt _ (by norm_num)⟩)) * _ = _
  rw [e1, e2]

end Cert.Proof

end
-- ==== Proof.BridgeArray.lean ====
/- What the first kernel region leaves in its result array: the bridge layer of every row, each grid point writing the
   512 rows of its own block. -/
module

public import proofs.«01_k».proof.Proof.Bridge
public import Idealize.ShloMosaic.Lib.Pipeline.ValueKit

@[expose] public section

open scoped BigOperators

noncomputable section

namespace Cert.Proof

open Idealize.ShloMosaic Idealize.ShloMosaic.TcCoe Idealize.ShloMosaic.Pipeline Cert.KernelIdeal Cert.KernelIdeal.Gen

variable (V : (c : Dev nD) → (b : Ref sig .tc) → Buf (Elt Ideal) ((c : Thread nD τ).loc b))

/-- The bridge layer on arrays. -/
def bridgeArr (x : Vec Ideal S8192x256 .f32) (b : Vec Ideal S256x128 .f32) (w : Vec Ideal S2048x128 .f32) :
    Vec Ideal S8192x128 .f32 := fun y =>
  kan (fun i => x (ix2 (y 0) i)) (fun i => b (ix2 i (y 1))) (fun i c => w (ix2 ⟨c.val * 256 + i.val, by omega⟩ (y 1)))

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![t.val, 0] := (by decide +kernel : ∀ t : Fin grid0.N, _)

theorem bridge_array (c : Dev nD) : (dat0 V c).arrAt 3 cfg0.N
    = bridgeArr (V c main_v10) (V c main_v0) (V c main_v2) := by
  refine (dat0 V c).arrAt_eq_of_covers 3 _ (by decide +kernel) fun t hf y => ?_
  blk_simp
  rw [after0_3]
  obtain ⟨r, o, rfl⟩ : ∃ (r : Fin 512) (o : Fin 128), y = ix2 r o := ⟨y 0, y 1, eq_ix2 y⟩
  refine (bridge_block _ _ _ r o).trans ?_
  unfold bridgeArr
  have e0 : ∀ i : Fin 256, iblk0 V c 0 t (ix2 r i) = V c main_v10 (ix2 ((win0_3.blk t).view.emb (ix2 r o) 0) i) := by
    intro i
    blk_simp [iblk0]
    congr 1
    blk_ext [idx0_0, idx0_3]
  have e1 : ∀ i : Fin 256, iblk0 V c 1 t (ix2 i o) = V c main_v0 (ix2 i ((win0_3.blk t).view.emb (ix2 r o) 1)) := by
    intro i
    blk_simp [iblk0]
    congr 1
    blk_ext [idx0_1, idx0_3]
  have e2 : ∀ i : Fin 2048, iblk0 V c 2 t (ix2 i o) = V c main_v2 (ix2 i ((win0_3.blk t).view.emb (ix2 r o) 1)) := by
    intro i
    blk_simp [iblk0]
    congr 1
    blk_ext [idx0_2, idx0_3]
  simp only [e0, e1, e2]

end Cert.Proof

end
-- ==== Proof.Conv.lean ====
/- What one block of the second kernel region computes: one sample's two convolutions, its pooling by eight and the
   position table added. -/
module

public import proofs.«01_k».proof.Proof.Spline
public import proofs.«01_k».proof.Proof.Consts
public import proofs.«01_k».proof.Proof.Gen.KernelIdeal.Frame
public import Idealize.ShloMosaic.Lib.Pointwise

@[expose] public section

open scoped BigOperators

noncomputable section

namespace Cert.Proof

open Idealize.ShloMosaic Cert.KernelIdeal Cert.KernelIdeal.Gen

/-- The kernel's three stacked shifts of a sequence: one step earlier, itself, one step later. -/
def stack (v : FVec Ideal S2048x128 .f32) : FVec Ideal S2048x384 .f32 :=
  let z : FVec Ideal S1x128 .f32 := broadcast S1x128 (Scalar.ofBits (F := Ideal) .f32 0x00000000#32)
  concatenate S2048x384 1
    [⟨S2048x128, concatenate S2048x128 0 [⟨S1x128, z⟩,
        ⟨S2047x128, extractStridedSlice S2047x128 ![0, 0] v slices_S2048x128_o0_0_S2047x128⟩]
        concatenates_S1x128_S2047x128_S2048x128_d0⟩,
     ⟨S2048x128, v⟩,
     ⟨S2048x128, concatenate S2048x128 0 [
        ⟨S2047x128, extractStridedSlice S2047x128 ![1, 0] v slices_S2048x128_o1_0_S2047x128⟩, ⟨S1x128, z⟩]
        concatenates_S2047x128_S1x128_S2048x128_d0⟩]
    concatenates_S2048x128_S2048x128_S2048x128_S2048x384_d1

/-- The kernel's scaled exponential unit on a whole sequence. -/
def seluVec (v : FVec Ideal S2048x128 .f32) : FVec Ideal S2048x128 .f32 :=
  mulf (broadcast S2048x128 (Scalar.ofBits (F := Ideal) .f32 0x3F867D5F#32))
    (select (cmpf .ogt v (broadcast S2048x128 (Scalar.ofBits (F := Ideal) .f32 0x00000000#32))) v
      (mulf (broadcast S2048x128 (Scalar.ofBits (F := Ideal) .f32 0x3FD62D7D#32))
        (subf (exp v) (broadcast S2048x128 (Scalar.ofBits (F := Ideal) .f32 0x3F800000#32)))))

theorem seluVec_apply (v : FVec Ideal S2048x128 .f32) (t : Fin 2048) (o : Fin 128) :
    seluVec v (ix2 t o) = selu (v (ix2 t o)) := by
  pointwise [seluVec, selu]

theorem stack_prev (v : FVec Ideal S2048x128 .f32) (t : Fin 2048) (i : Fin 128) :
    stack v (ix2 t ⟨i.val, by omega⟩) = prev (fun t => v (ix2 t i)) t := by
  pointwise [stack]
  unfold prev
  by_cases h : t.val = 0
  · rw [dif_pos h, dif_pos (by omega)]
  · rw [dif_neg h, dif_neg (by omega)]

theorem stack_self (v : FVec Ideal S2048x128 .f32) (t : Fin 2048) (i : Fin 128) :
    stack v (ix2 t ⟨128 + i.val, by omega⟩) = v (ix2 t i) := by
  pointwise [stack]

theorem stack_next (v : FVec Ideal S2048x128 .f32) (t : Fin 2048) (i : Fin 128) :
    stack v (ix2 t ⟨256 + i.val, by omega⟩) = next (fun t => v (ix2 t i)) t := by
  pointwise [stack]
  unfold next
  have hi := i.isLt
  have ht := t.isLt
  rw [dif_neg (by omega), dif_neg (by omega)]
  by_cases h : t.val = 2047
  · rw [dif_pos h, dif_neg (by omega)]
  · rw [dif_neg h, dif_pos (by omega)]
    congr 2
    · apply Fin.ext; show 1 + t.val = t.val + 1; omega
    · apply Fin.ext; show 256 + i.val - 128 - 128 = i.val; omega

/-- The kernel's convolution: the stacked shifts against the stacked taps. -/
def convVec (v : FVec Ideal S2048x128 .f32) (w : FVec Ideal S384x128 .f32) : FVec Ideal S2048x128 .f32 :=
  matmul (F := Ideal) dot_S2048x384_S384x128_S2048x128_1_0_0_1_n_n none (stack v) (shapeCast S384x128 w shapeCasts_S384x128_S384x128)
    (constant S2048x128 .f32 0x00000000#32)

theorem convVec_apply (v : FVec Ideal S2048x128 .f32) (w : Vec Ideal S384x128 .f32) (b : EReal) (t : Fin 2048)
    (o : Fin 128) : convVec v w (ix2 t o) + b
      = conv (fun t i => v (ix2 t i)) (fun i k => w (ix2 ⟨k.val * 128 + i.val, by omega⟩ o)) b t := by
  have h : convVec v w (ix2 t o) = ∑ k : Fin 384, stack v (ix2 t k) * w (ix2 k o) := by
    pointwise [convVec]
  rw [h]
  unfold conv
  congr 1
  refine (sum_blocks 3 128 _).trans ?_
  rw [← Finset.sum_add_distrib, ← Finset.sum_add_distrib]
  refine Finset.sum_congr rfl fun i _ => ?_
  rw [Fin.sum_univ_three]
  have at_ : ∀ (k k' : Fin 384), k.val = k'.val → ∀ y, stack v (ix2 t k') = y →
      stack v (ix2 t k) * w (ix2 k o) = y * w (ix2 k o) := by
    rintro k k' h y rfl
    rw [Fin.ext h]
  exact congrArg₂ (· + ·) (congrArg₂ (· + ·)
      (at_ _ ⟨i.val, by omega⟩ (by show 0 * 128 + i.val = i.val; omega) _ (stack_prev v t i))
      (at_ _ ⟨128 + i.val, by omega⟩ (by show 1 * 128 + i.val = 128 + i.val; omega) _ (stack_self v t i)))
    (at_ _ ⟨256 + i.val, by omega⟩ (by show 2 * 128 + i.val = 256 + i.val; omega) _ (stack_next v t i))

theorem pay2_eq (x : Vec Ideal S1x2048x128 .f32) (w₁ : Vec Ideal S384x128 .f32) (b₁ : Vec Ideal S1x128 .f32)
    (w₂ : Vec Ideal S384x128 .f32) : k1_pay2 x w₁ b₁ w₂
      = convVec (seluVec (addf (convVec (shapeCast S2048x128 x shapeCasts_S1x2048x128_S2048x128) w₁)
          (broadcastTo S2048x128 (shapeCast S1x128 b₁ shapeCasts_S1x128_S1x128) broadcasts_S1x128_S2048x128))) w₂ := rfl

theorem pay2_apply (x : Vec Ideal S1x2048x128 .f32) (w₁ : Vec Ideal S384x128 .f32) (b₁ : Vec Ideal S1x128 .f32)
    (w₂ : Vec Ideal S384x128 .f32) (b : EReal) (t : Fin 2048) (o : Fin 128) :
    k1_pay2 x w₁ b₁ w₂ (ix2 t o) + b
      = conv (layer (fun t i => x (ix3 0 t i)) (fun o i k => w₁ (ix2 ⟨k.val * 128 + i.val, by omega⟩ o))
          (fun o => b₁ (ix2 0 o))) (fun i k => w₂ (ix2 ⟨k.val * 128 + i.val, by omega⟩ o)) b t := by
  rw [pay2_eq, convVec_apply]
  congr 1
  funext t i
  rw [seluVec_apply]
  unfold layer
  refine congrArg selu ?_
  have h := convVec_apply (shapeCast S2048x128 x shapeCasts_S1x2048x128_S2048x128) w₁ (b₁ (ix2 0 i)) t i
  refine Eq.trans ?_ (h.trans ?_)
  · pointwise
  · congr 1
    funext t i
    pointwise

/-- One entry of a block: the node's channel. -/
theorem conv_block (x : Vec Ideal S1x2048x128 .f32) (w₁ : Vec Ideal S384x128 .f32) (b₁ : Vec Ideal S1x128 .f32)
    (w₂ : Vec Ideal S384x128 .f32) (b₂ : Vec Ideal S1x128 .f32) (p : Vec Ideal S1x256x128 .f32) (n : Fin 256)
    (o : Fin 128) :
    out1_6 x w₁ b₁ w₂ b₂ p (ix3 0 n o)
      = nodes (fun t i => x (ix3 0 t i)) (fun o i k => w₁ (ix2 ⟨k.val * 128 + i.val, by omega⟩ o))
          (fun o => b₁ (ix2 0 o)) (fun o i k => w₂ (ix2 ⟨k.val * 128 + i.val, by omega⟩ o)) (fun o => b₂ (ix2 0 o))
          (fun n o => p (ix3 0 n o)) n o := by
  have hz : (![0, 0] : Fin 2 → ℕ) = fun _ => 0 := by funext a; fin_cases a <;> rfl
  have hz3 : (![0, 0, 0] : Fin 3 → ℕ) = fun _ => 0 := by funext a; fin_cases a <;> rfl
  have e : out1_6 x w₁ b₁ w₂ b₂ p = k1_pay1 (k1_pay2 x w₁ b₁ w₂) (k1_pay3 b₂) p := by
    unfold out1_6
    rw [View.ld_unit_zero (S := S1x2048x128) hz3, View.ld_unit_zero (S := S384x128) hz,
      View.ld_unit_zero (S := S384x128) hz, View.ld_unit_zero (S := S1x128) hz, View.ld_unit_zero (S := S1x128) hz,
      View.ld_unit_zero (S := S1x256x128) hz3]
    exact View.canon_unit_zero (S := S1x256x128) hz3 _ _
  rw [e]
  have h := fun t => pay2_apply x w₁ b₁ w₂ (b₂ (ix2 0 o)) t o
  generalize k1_pay2 x w₁ b₁ w₂ = v at h ⊢
  pointwise [k1_pay1, k1_pay3]
  simp only [h]
  rfl

end Cert.Proof

end
-- ==== Proof.ConvArray.lean ====
/- What the second kernel region leaves in its result array: the nodes of every sample, each grid point writing one
   sample. -/
module

public import proofs.«01_k».proof.Proof.Conv
public import Idealize.ShloMosaic.Lib.Pipeline.ValueKit

@[expose] public section

open scoped BigOperators

noncomputable section

namespace Cert.Proof

open Idealize.ShloMosaic Idealize.ShloMosaic.TcCoe Idealize.ShloMosaic.Pipeline Cert.KernelIdeal Cert.KernelIdeal.Gen

variable (V : (c : Dev nD) → (b : Ref sig .tc) → Buf (Elt Ideal) ((c : Thread nD τ).loc b))

/-- The nodes on arrays. -/
def nodesArr (x : Vec Ideal S4x2048x128 .f32) (w₁ : Vec Ideal S384x128 .f32) (b₁ : Vec Ideal S1x128 .f32)
    (w₂ : Vec Ideal S384x128 .f32) (b₂ : Vec Ideal S1x128 .f32) (p : Vec Ideal S1x256x128 .f32) :
    Vec Ideal S4x256x128 .f32 := fun y =>
  nodes (fun t i => x (ix3 (y 0) t i)) (fun o i k => w₁ (ix2 ⟨k.val * 128 + i.val, by omega⟩ o))
          (fun o => b₁ (ix2 0 o)) (fun o i k => w₂ (ix2 ⟨k.val * 128 + i.val, by omega⟩ o)) (fun o => b₂ (ix2 0 o))
          (fun n o => p (ix3 0 n o)) (y 1) (y 2)

theorem idx1_0 : ∀ t : Fin cfg1.N, win1_0.index t = ![t.val, 0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0, 0] := (by decide +kernel : ∀ t : Fin grid1.N, _)
theorem idx1_6 : ∀ t : Fin cfg1.N, win1_6.index t = ![t.val, 0, 0] := (by decide +kernel : ∀ t : Fin grid1.N, _)

theorem c_e0 (c : Dev nD) (t : Fin cfg1.N) (n : Fin 256) (o : Fin 128) (s : Fin 2048) (i : Fin 128) :
    iblk1 V c 0 t (ix3 0 s i) = V c main_v12 (ix3 ((win1_6.blk t).view.emb (ix3 0 n o) 0) s i) := by
  blk_simp [iblk1]
  congr 1
  blk_ext [idx1_0, idx1_6]

theorem c_e1 (c : Dev nD) (t : Fin cfg1.N) : iblk1 V c 1 t = V c main_v4 := by
  funext i
  revert i
  show ∀ i : S384x128.Idx, _
  intro i
  blk_simp [iblk1]
  congr 1
  blk_ext [idx1_1]

theorem c_e2 (c : Dev nD) (t : Fin cfg1.N) : iblk1 V c 2 t = V c main_v13 := by
  funext i
  revert i
  show ∀ i : S1x128.Idx, _
  intro i
  blk_simp [iblk1]
  congr 1
  blk_ext [idx1_2]

theorem c_e3 (c : Dev nD) (t : Fin cfg1.N) : iblk1 V c 3 t = V c main_v6 := by
  funext i
  revert i
  show ∀ i : S384x128.Idx, _
  intro i
  blk_simp [iblk1]
  congr 1
  blk_ext [idx1_3]

theorem c_e4 (c : Dev nD) (t : Fin cfg1.N) : iblk1 V c 4 t = V c main_v14 := by
  funext i
  revert i
  show ∀ i : S1x128.Idx, _
  intro i
  blk_simp [iblk1]
  congr 1
  blk_ext [idx1_4]

theorem c_e5 (c : Dev nD) (t : Fin cfg1.N) (n : Fin 256) (o : Fin 128) :
    iblk1 V c 5 t (ix3 0 n o) = V c main_arg7 (ix3 0 n o) := by
  blk_simp [iblk1]
  congr 1
  blk_ext [idx1_5]

theorem conv_array (c : Dev nD) : (dat1 V c).arrAt 6 cfg1.N
    = nodesArr (V c main_v12) (V c main_v4) (V c main_v13) (V c main_v6) (V c main_v14) (V c main_arg7) := by
  refine (dat1 V c).arrAt_eq_of_covers 6 _ (by decide +kernel) fun t hf y => ?_
  blk_simp
  rw [after1_6]
  obtain ⟨z, n, o, rfl⟩ : ∃ (z : Fin 1) (n : Fin 256) (o : Fin 128), y = ix3 z n o := ⟨y 0, y 1, y 2, eq_ix3 y⟩
  obtain rfl : z = 0 := Subsingleton.elim _ _
  refine (conv_block _ _ _ _ _ _ n o).trans ?_
  unfold nodesArr
  have p1 : (win1_6.blk t).view.emb (ix3 0 n o) 1 = n := by
    apply Fin.ext; blk_simp [idx1_6]
  have p2 : (win1_6.blk t).view.emb (ix3 0 n o) 2 = o := by
    apply Fin.ext; blk_simp [idx1_6]
  have E0 : (fun (s : Fin 2048) (i : Fin 128) => iblk1 V c 0 t (ix3 0 s i))
      = fun s i => V c main_v12 (ix3 ((win1_6.blk t).view.emb (ix3 0 n o) 0) s i) := funext fun s => funext (c_e0 V c t n o s)
  rw [p1, p2, E0, c_e1, c_e2, c_e3, c_e4, show (fun (n : Fin 256) (o : Fin 128) => iblk1 V c 5 t (ix3 0 n o))
      = fun n o => V c main_arg7 (ix3 0 n o) from funext fun n => funext fun o => c_e5 V c t n o]

end Cert.Proof

end
-- ==== Proof.TopK.lean ====
/- The eight best of a row of 256, two ways: eight rounds that each take the row's maximum, count how many entries were
   removed so far, keep the maximum of the round where the count first reaches eight, and remove the entries equal to it;
   and a stable sort of the row, greatest first, read at its eighth place. Both thresholds are met by exactly the entries
   with fewer than eight others strictly above them. -/
module

public import proofs.«01_k».proof.Proof.Spec
public import Idealize.ShloMosaic.Lib.SortFacts
public import Mathlib.Tactic.Linarith

@[expose] public section

open scoped BigOperators

noncomputable section

namespace Cert.Proof

open Idealize.ShloMosaic

/-- The state of the rounds on one row: what is left (removed entries at `⊥`), the threshold found, whether it has been
    found, and how many entries were removed. -/
structure Row where
  work : Fin 256 → EReal
  thr : EReal
  got : BitVec 1
  count : EReal

/-- The count after one more round. -/
def Row.tally (r : Row) : EReal := r.count + ∑ j, if r.work j = Finset.univ.sup r.work then 1 else 0

/-- One exactly in the round where the count reaches eight for the first time. -/
def Row.cross (r : Row) : BitVec 1 := BitVec.ofBool (decide (8 ≤ r.tally)) &&& (r.got ^^^ 1#1)

/-- One round. -/
def Row.step (r : Row) : Row where
  work := fun j => if r.work j = Finset.univ.sup r.work then ⊥ else r.work j
  thr := if r.cross = 1 then Finset.univ.sup r.work else r.thr
  got := r.got ||| r.cross
  count := r.tally

/-- The state before the first round. -/
def Row.start (s : Fin 256 → EReal) : Row := ⟨s, ⊥, 0#1, 0⟩

/-- The threshold separates the eight best of `s` (with their ties) from the rest. -/
def Splits (s : Fin 256 → EReal) (t : EReal) : Prop := ∀ m, t ≤ s m ↔ top s m

/-- What holds after `k` rounds: the threshold is found, or an upward-closed set of at least `k` and fewer than eight
    entries has been removed. -/
def Inv (s : Fin 256 → EReal) (k : ℕ) (r : Row) : Prop :=
  (r.got = 1#1 ∧ Splits s r.thr) ∨
  (r.got = 0#1 ∧ ∃ R : Finset (Fin 256), k ≤ R.card ∧ R.card < 8 ∧ r.count = (R.card : ℝ) ∧
    (∀ i j, j ∈ R → s j ≤ s i → i ∈ R) ∧ ∀ j, r.work j = if j ∈ R then ⊥ else s j)

theorem inv_start (s : Fin 256 → EReal) : Inv s 0 (Row.start s) :=
  .inr ⟨rfl, ∅, by simp, by simp, by simp [Row.start], by simp, by simp [Row.start]⟩

theorem sum_ind (p : Fin 256 → Prop) [DecidablePred p] :
    (∑ j, if p j then (1 : EReal) else 0) = ((Finset.univ.filter p).card : ℝ) := by
  rw [Finset.sum_boole]; rfl

theorem eight_le (n : ℕ) : (8 : EReal) ≤ ((n : ℝ) : EReal) ↔ 8 ≤ n := by
  have : (8 : EReal) = ((8 : ℕ) : ℝ) := by norm_num; rfl
  rw [this, EReal.coe_le_coe_iff, Nat.cast_le]

theorem inv_step (s : Fin 256 → EReal) (k : ℕ) (r : Row) (h : Inv s k r) : Inv s (k + 1) r.step := by
  rcases h with ⟨hg, hs⟩ | ⟨hg, R, hk, h8, hc, hup, hw⟩
  · left
    have hx : r.cross = 0#1 := by simp [Row.cross, hg]
    refine ⟨by simp [Row.step, hx, hg], ?_⟩
    have : r.step.thr = r.thr := by simp [Row.step, hx]
    rw [this]; exact hs
  · set m := Finset.univ.sup r.work with hm
    have hle : ∀ j, r.work j ≤ m := fun j => Finset.le_sup (Finset.mem_univ j)
    obtain ⟨j0, -, hj0⟩ := Finset.exists_mem_eq_sup Finset.univ ⟨0, Finset.mem_univ _⟩ r.work
    have hj0 : m = r.work j0 := hj0
    have hsub : ∀ j, s j ≠ ⊥ → j ∉ R → s j ≤ m := fun j _ hR => by
      have := hle j; rwa [hw j, if_neg hR] at this
    have htal : r.tally = (((R.card + (Finset.univ.filter fun j => r.work j = m).card : ℕ) : ℝ) : EReal) := by
      rw [Row.tally, hc, sum_ind]; push_cast; rfl
    have hcross : r.cross = BitVec.ofBool (decide (8 ≤ R.card + (Finset.univ.filter fun j => r.work j = m).card)) := by
      rw [Row.cross, htal, hg]
      simp only [eight_le]
      generalize decide (8 ≤ R.card + (Finset.univ.filter fun j => r.work j = m).card) = b
      cases b <;> rfl
    have hstep_got : r.step.got = r.cross := by rw [Row.step, hg]; simp
    have habove : ∀ x, m ≤ s x → top s x := by
      intro x hx
      refine lt_of_le_of_lt (Finset.card_le_card (t := R) fun j hj => ?_) h8
      have hj := (Finset.mem_filter.1 hj).2
      by_contra hR
      exact absurd (lt_of_le_of_lt hx hj) (not_lt.2 (hsub j (bot_le.trans_lt hj).ne' hR))
    by_cases hb : m = ⊥
    · have hall : (Finset.univ.filter fun j => r.work j = m) = Finset.univ := by
        refine Finset.filter_true_of_mem fun j _ => ?_
        have := hle j; rw [hb] at this ⊢; exact le_bot_iff.1 this
      have hx : r.cross = 1#1 := by rw [hcross, hall]; simp
      left
      refine ⟨by rw [hstep_got, hx], ?_⟩
      have : r.step.thr = m := by simp [Row.step, hx, hm]
      rw [this]
      exact fun x => ⟨habove x, fun _ => by rw [hb]; exact bot_le⟩
    · have hmem : ∀ j, r.work j = m ↔ j ∉ R ∧ s j = m := by
        intro j
        rw [hw j]
        by_cases hR : j ∈ R
        · simp [hR, Ne.symm hb]
        · simp [hR]
      have hdisj : Disjoint R (Finset.univ.filter fun j => r.work j = m) := by
        rw [Finset.disjoint_left]
        intro j hj hj'
        exact ((hmem j).1 (Finset.mem_filter.1 hj').2).1 hj
      have hcard := Finset.card_union_of_disjoint hdisj
      set R' := R ∪ (Finset.univ.filter fun j => r.work j = m) with hR'
      have hmR' : ∀ j, j ∈ R' ↔ j ∈ R ∨ (j ∉ R ∧ s j = m) := by
        intro j; rw [hR', Finset.mem_union, Finset.mem_filter, hmem j]; simp
      have hj0R := (hmem j0).1 hj0.symm
      have hRm : ∀ j, j ∈ R → m < s j := by
        intro j hj
        by_contra hlt
        exact hj0R.1 (hup j0 j hj (by rw [hj0R.2]; exact not_lt.1 hlt))
      have hup' : ∀ i j, j ∈ R' → s j ≤ s i → i ∈ R' := by
        intro i j hj hij
        rw [hmR'] at hj ⊢
        rcases hj with hj | ⟨_, hj⟩
        · exact .inl (hup i j hj hij)
        · by_cases hi : i ∈ R
          · exact .inl hi
          · refine .inr ⟨hi, le_antisymm (hsub i ?_ hi) (hj ▸ hij)⟩
            intro hbot; rw [hbot, hj] at hij; exact hb (le_bot_iff.1 hij)
      have hpos : 0 < (Finset.univ.filter fun j => r.work j = m).card :=
        Finset.card_pos.2 ⟨j0, Finset.mem_filter.2 ⟨Finset.mem_univ _, hj0.symm⟩⟩
      by_cases hge : 8 ≤ R'.card
      · left
        have hx : r.cross = 1#1 := by rw [hcross, ← hcard]; simp [hge]
        refine ⟨by rw [hstep_got, hx], ?_⟩
        have : r.step.thr = m := by simp [Row.step, hx, hm]
        rw [this]
        refine fun x => ⟨habove x, fun ht => ?_⟩
        by_contra hlt
        rw [not_le] at hlt
        have : R'.card ≤ (Finset.univ.filter fun j => s x < s j).card := by
          refine Finset.card_le_card fun j hj => Finset.mem_filter.2 ⟨Finset.mem_univ _, ?_⟩
          rcases (hmR' j).1 hj with hj | ⟨_, hj⟩
          · exact hlt.trans (hRm j hj)
          · rw [hj]; exact hlt
        have ht : (Finset.univ.filter fun j => s x < s j).card < 8 := ht
        omega
      · right
        have hx : r.cross = 0#1 := by rw [hcross, ← hcard]; simp [hge]
        refine ⟨by rw [hstep_got, hx], R', by omega, by omega, ?_, hup', ?_⟩
        · show r.tally = _
          rw [htal, hcard]
        · intro j
          show (if r.work j = m then (⊥ : EReal) else r.work j) = _
          by_cases hj : r.work j = m
          · rw [if_pos hj, if_pos ((hmR' j).2 (.inr ((hmem j).1 hj)))]
          · rw [if_neg hj, hw j]
            by_cases hR : j ∈ R
            · rw [if_pos hR, if_pos ((hmR' j).2 (.inl hR))]
            · rw [if_neg hR, if_neg]
              rw [hmR', ← hmem j]
              exact fun h => h.elim hR hj

/-- After eight rounds the threshold is found. -/
theorem splits_rounds (s : Fin 256 → EReal) :
    Splits s (Row.start s).step.step.step.step.step.step.step.step.thr := by
  have h := inv_step s _ _ (inv_step s _ _ (inv_step s _ _ (inv_step s _ _ (inv_step s _ _ (inv_step s _ _
    (inv_step s _ _ (inv_step s _ _ (inv_start s))))))))
  rcases h with h | ⟨_, R, h1, h2, _⟩
  · exact h.2
  · omega

/-- The eighth place of the row sorted greatest first. -/
def eighth (s : Fin 256 → EReal) : EReal :=
  s (sortedFrom (fun k k' => Ideal.cmp .ogt (s k) (s k') == 1#1) 7)

theorem splits_eighth (s : Fin 256 → EReal) : Splits s (eighth s) := by
  set B : Fin 256 → Fin 256 → Bool := fun k k' => Ideal.cmp .ogt (s k) (s k') == 1#1 with hB
  have hBt : ∀ a b, B a b = true ↔ s b < s a := by
    intro a b
    simp only [hB, Ideal.cmp, beq_iff_eq]
    by_cases h : s b < s a <;> simp [h]
  have hBf : ∀ a b, B a b = false ↔ s a ≤ s b := by
    intro a b
    rw [← Bool.not_eq_true, hBt, not_lt]
  have hinv : ∀ i j, i < j → s (sortedFrom B j) ≤ s (sortedFrom B i) := by
    intro i j hij
    exact (hBf _ _).1 (sortedFrom_noInversion B B (fun a b h => (hBf _ _).2 ((hBt _ _).1 h).le) (fun _ _ h => h)
      (fun a b c h1 h2 => (hBf _ _).2 (((hBf _ _).1 h1).trans ((hBf _ _).1 h2))) i j hij)
  have hinj := sortedFrom_injective B
  have hsurj := sortedFrom_surjective B
  have hcard : ((Finset.univ.filter fun p : Fin 256 => p ≤ 7).image (sortedFrom B)).card = 8 := by
    rw [Finset.card_image_of_injective _ hinj]; decide
  have hcard' : ((Finset.univ.filter fun p : Fin 256 => p < 7).image (sortedFrom B)).card = 7 := by
    rw [Finset.card_image_of_injective _ hinj]; decide
  intro m
  show s (sortedFrom B 7) ≤ s m ↔ _
  constructor
  · intro h
    refine lt_of_le_of_lt (Finset.card_le_card (t := (Finset.univ.filter fun p : Fin 256 => p < 7).image (sortedFrom B))
      fun j hj => ?_) (by rw [hcard']; omega)
    obtain ⟨p, rfl⟩ := hsurj j
    have hj := h.trans_lt (Finset.mem_filter.1 hj).2
    refine Finset.mem_image_of_mem _ (Finset.mem_filter.2 ⟨Finset.mem_univ _, ?_⟩)
    by_contra hp
    rcases lt_or_eq_of_le (not_lt.1 hp) with hp | hp
    · exact absurd hj (not_lt.2 (hinv _ _ hp))
    · rw [← hp] at hj; exact lt_irrefl _ hj
  · intro h
    by_contra hlt
    rw [not_le] at hlt
    have : 8 ≤ (Finset.univ.filter fun j => s m < s j).card := by
      rw [← hcard]
      refine Finset.card_le_card fun j hj => ?_
      obtain ⟨p, hp, rfl⟩ := Finset.mem_image.1 hj
      refine Finset.mem_filter.2 ⟨Finset.mem_univ _, hlt.trans_le ?_⟩
      rcases lt_or_eq_of_le (Finset.mem_filter.1 hp).2 with hp | hp
      · exact hinv _ _ hp
      · rw [hp]
    have h : (Finset.univ.filter fun j => s m < s j).card < 8 := h
    omega

end Cert.Proof

end
-- ==== Proof.Rounds.lean ====
/- The threshold search of the third kernel region, on a whole score matrix: eight rounds, each taking the row maximum
   out and counting, read row by row as the rounds of `Row`. -/
module

public import proofs.«01_k».proof.Proof.TopK
public import proofs.«01_k».proof.Proof.Consts
public import proofs.«01_k».proof.Proof.Gen.KernelIdeal.Frame
public import Idealize.ShloMosaic.Lib.Pointwise

@[expose] public section

open scoped BigOperators

noncomputable section

namespace Cert.Proof

open Idealize.ShloMosaic Cert.KernelIdeal Cert.KernelIdeal.Gen

/-- Each row's maximum. -/
def rmax (w : FVec Ideal S256x256 .f32) : FVec Ideal S256x1 .f32 :=
  shapeCast S256x1 (multiReduction (F := Ideal) .maximumf [1] S256 w 0xFF800000#32 reduces_S256x256_S256 (.inl rfl) rfl)
    shapeCasts_S256_S256x1

/-- Where a row meets its maximum. -/
def hit (w : FVec Ideal S256x256 .f32) : IVec S256x256 1 :=
  cmpf (F := Ideal) .oeq w (broadcastTo S256x256 (rmax w) broadcasts_S256x1_S256x256)

/-- How often each row meets its maximum. -/
def hits (w : FVec Ideal S256x256 .f32) : FVec Ideal S256x1 .f32 :=
  shapeCast S256x1 (multiReduction (F := Ideal) .add [1] S256 (sitofp (F := Ideal) .f32 (extui 32 (hit w) natLt_1_32)) 0x00000000#32
    reduces_S256x256_S256 (.inl rfl) rfl) shapeCasts_S256_S256x1

/-- The search's state: the matrix with what was taken out masked, the threshold, whether it is found, the count. -/
structure Rounds where
  work : FVec Ideal S256x256 .f32
  thr : FVec Ideal S256x1 .f32
  got : IVec S256x1 1
  count : FVec Ideal S256x1 .f32

def Rounds.tally (r : Rounds) : FVec Ideal S256x1 .f32 := addf (F := Ideal) r.count (hits r.work)

def Rounds.full (r : Rounds) : IVec S256x1 1 :=
  cmpf (F := Ideal) .oge r.tally (broadcast S256x1 (Scalar.ofBits (F := Ideal) .f32 0x41000000#32))

def Rounds.cross (r : Rounds) : IVec S256x1 1 := andi r.full (xori r.got (constantI S256x1 1 1#1))

def Rounds.step (r : Rounds) : Rounds where
  work := select (hit r.work) (broadcast S256x256 (Named.named (F := Ideal) (φ := .f32) κ "mask" 0xF149F2CA#32)) r.work
  thr := select r.cross (rmax r.work) r.thr
  got := ori r.got r.cross
  count := r.tally

def Rounds.start (s : FVec Ideal S256x256 .f32) : Rounds where
  work := s
  thr := broadcast S256x1 (Named.named (F := Ideal) (φ := .f32) κ "mask" 0xF149F2CA#32)
  got := broadcast S256x1 0#1
  count := broadcast S256x1 (Scalar.ofBits (F := Ideal) .f32 0x00000000#32)

/-- Row `n` of a state. -/
def Rounds.row (r : Rounds) (n : Fin 256) : Row :=
  ⟨fun j => r.work (ix2 n j), r.thr (ix2 n 0), r.got (ix2 n 0), r.count (ix2 n 0)⟩

theorem select_ofBool {α : Type} (p : Prop) [Decidable p] (a b : α) :
    Scalar.select (BitVec.ofBool (decide p)) a b = if p then a else b := by
  by_cases h : p <;> simp [Scalar.select, h]

theorem rmax_apply (w : FVec Ideal S256x256 .f32) (n : Fin 256) :
    rmax w (ix2 n 0) = Finset.univ.sup fun j => w (ix2 n j) := by
  pointwise [rmax]
  rw [w_neg_inf]
  rfl

theorem hit_apply (w : FVec Ideal S256x256 .f32) (n m : Fin 256) :
    hit w (ix2 n m) = BitVec.ofBool (decide (w (ix2 n m) = Finset.univ.sup fun j => w (ix2 n j))) := by
  have h := rmax_apply w n
  pointwise [hit]
  rw [h]

theorem hits_apply (w : FVec Ideal S256x256 .f32) (n : Fin 256) :
    hits w (ix2 n 0) = ∑ m, if w (ix2 n m) = Finset.univ.sup (fun j => w (ix2 n j)) then (1 : EReal) else 0 := by
  have h := hit_apply w n
  pointwise [hits]
  simp only [h, sitofp_ind]

theorem row_start (s : FVec Ideal S256x256 .f32) (n : Fin 256) :
    (Rounds.start s).row n = Row.start fun j => s (ix2 n j) := by
  unfold Rounds.row Row.start Rounds.start
  congr 1
  pointwise

theorem tally_row (r : Rounds) (n : Fin 256) : r.tally (ix2 n 0) = (r.row n).tally := by
  have h2 := hits_apply r.work n
  unfold Row.tally Rounds.row
  pointwise [Rounds.tally]
  rw [h2]

theorem cross_row (r : Rounds) (n : Fin 256) : r.cross (ix2 n 0) = (r.row n).cross := by
  have ht := tally_row r n
  unfold Row.cross
  pointwise [Rounds.cross, Rounds.full]
  rw [ht, w_eight]
  rfl

theorem work_row (r : Rounds) (n j : Fin 256) : r.step.work (ix2 n j) = (r.row n).step.work j := by
  have h3 := hit_apply r.work n
  pointwise [Rounds.step]
  rw [h3, select_ofBool, k_mask]
  rfl

theorem thr_row (r : Rounds) (n : Fin 256) : r.step.thr (ix2 n 0) = (r.row n).step.thr := by
  have hc := cross_row r n
  have h1 := rmax_apply r.work n
  pointwise [Rounds.step]
  rw [hc, h1]
  rfl

theorem got_row (r : Rounds) (n : Fin 256) : r.step.got (ix2 n 0) = (r.row n).step.got := by
  have hc := cross_row r n
  pointwise [Rounds.step]
  rw [hc]
  rfl

theorem row_step (r : Rounds) (n : Fin 256) : r.step.row n = (r.row n).step := by
  show Row.mk (fun j => r.step.work (ix2 n j)) (r.step.thr (ix2 n 0)) (r.step.got (ix2 n 0)) (r.tally (ix2 n 0)) = _
  rw [thr_row, got_row, tally_row, funext (work_row r n)]
  rfl

/-- The state after eight rounds. -/
def Rounds.last (s : FVec Ideal S256x256 .f32) : Rounds :=
  (Rounds.start s).step.step.step.step.step.step.step.step

theorem last_splits (s : FVec Ideal S256x256 .f32) (n : Fin 256) :
    Splits (fun j => s (ix2 n j)) ((Rounds.last s).thr (ix2 n 0)) := by
  have h := splits_rounds fun j => s (ix2 n j)
  simp only [← row_start, ← row_step] at h
  exact h

end Cert.Proof

end
-- ==== Proof.Mask.lean ====
/- The graph's mask in the third kernel region: the eight rounds are the region's own text, and the mask they end in is
   the adjacency of the scores. -/
module

public import proofs.«01_k».proof.Proof.Rounds
public import proofs.«01_k».proof.Proof.Spec

@[expose] public section

open scoped BigOperators

noncomputable section

namespace Cert.Proof

open Idealize.ShloMosaic Cert.KernelIdeal Cert.KernelIdeal.Gen

/-- The identity matrix, from two index grids. -/
def eyeVec : FVec Ideal S256x256 .f32 :=
  sitofp (F := Ideal) .f32 (extui 32 (cmpi .eq (iota .tc S256x256 32 [0] iota_S256x256_d0_w32)
    (iota .tc S256x256 32 [1] iota_S256x256_d1_w32)) natLt_1_32)

/-- Where a score reaches its row's threshold. -/
def reach (s : FVec Ideal S256x256 .f32) (t : FVec Ideal S256x1 .f32) : FVec Ideal S256x256 .f32 :=
  sitofp (F := Ideal) .f32 (extui 32 (cmpf (F := Ideal) .oge s (broadcastTo S256x256 t broadcasts_S256x1_S256x256))
    natLt_1_32)

/-- The mask: the reached entries, their transpose (a product with the identity) and the identity, added and compared
    with a half. -/
def maskVec (s : FVec Ideal S256x256 .f32) (t : FVec Ideal S256x1 .f32) : IVec S256x256 1 :=
  cmpf (F := Ideal) .ogt
    (addf (F := Ideal) (addf (F := Ideal) (reach s t)
      (matmul (F := Ideal) dot_S256x256_S256x256_S256x256_0_0_1_1_n_n none (reach s t) eyeVec
        (constant S256x256 .f32 0x00000000#32))) eyeVec)
    (broadcast S256x256 (Scalar.ofBits (F := Ideal) .f32 0x3F000000#32))

section rounds

variable (v : Vec Ideal S1x256x128 .f32) (r : Rounds) (s : FVec Ideal S256x256 .f32)

theorem one_work : k2_pay11 v = (Rounds.start (k2_pay4 v)).step.work := rfl
theorem one_count : k2_pay12 v = (Rounds.start (k2_pay4 v)).step.count := rfl
theorem one_hits : k2_pay14 v = hits (Rounds.start (k2_pay4 v)).step.work := rfl
theorem two_thr : k2_pay16 v = (Rounds.start (k2_pay4 v)).step.step.thr := rfl
theorem two_got : k2_pay17 v = (Rounds.start (k2_pay4 v)).step.step.got := rfl
theorem one_hit : k2_pay18 v = hit (Rounds.start (k2_pay4 v)).step.work := rfl

theorem four_thr : k2_pay30 r.work r.count (hits r.work) r.step.thr r.step.got (hit r.work) = r.step.step.step.thr := rfl
theorem four_got : k2_pay31 r.work r.count (hits r.work) r.step.got (hit r.work) = r.step.step.step.got := rfl
theorem four_work : k2_pay32 r.work (hit r.work) = r.step.step.step.work := rfl
theorem four_count : k2_pay33 r.work r.count (hits r.work) (hit r.work) = r.step.step.step.count := rfl
theorem four_max : k2_pay34 r.work (hit r.work) = rmax r.step.step.step.work := rfl
theorem four_hit : k2_pay35 r.work (hit r.work) = extui 32 (hit r.step.step.step.work) natLt_1_32 := rfl

theorem six_thr : k2_pay44 r.thr r.got r.work r.count (rmax r.work) (extui 32 (hit r.work) natLt_1_32) = r.step.step.thr := rfl
theorem six_got : k2_pay45 r.got r.work r.count (rmax r.work) (extui 32 (hit r.work) natLt_1_32) = r.step.step.got := rfl
theorem six_work : k2_pay46 r.work (rmax r.work) = r.step.step.work := rfl
theorem six_count : k2_pay47 r.work r.count (rmax r.work) (extui 32 (hit r.work) natLt_1_32) = r.step.step.count := rfl
theorem six_max : k2_pay48 r.work (rmax r.work) = rmax r.step.step.work := rfl
theorem six_hits : k2_pay49 r.work (rmax r.work) = hits r.step.step.work := rfl
theorem six_full : k2_pay50 r.work r.count (rmax r.work) (extui 32 (hit r.work) natLt_1_32) = r.step.step.full := rfl
theorem six_open : k2_pay51 r.got r.work r.count (rmax r.work) (extui 32 (hit r.work) natLt_1_32)
    = xori r.step.step.got (constantI S256x1 1 1#1) := rfl

theorem eight_mask : k2_pay52 s r.thr r.got r.work r.count (rmax r.work) (hits r.work) r.full
    (xori r.got (constantI S256x1 1 1#1)) = maskVec s r.step.step.thr := rfl

end rounds

/-- The region's mask, on its loaded block. -/
theorem mask_rounds (x0 : Vec Ideal S1x256x128 .f32) (x1 : Vec Ideal S128x128 .f32) (x2 : Vec Ideal S128x1 .f32)
    (x3 : Vec Ideal S1x128 .f32) (x4 : Vec Ideal S128x128 .f32) (x5 : Vec Ideal S128x1 .f32)
    (x6 : Vec Ideal S1x128 .f32) (x7 : Vec Ideal S1x128 .f32) (x8 : Vec Ideal S1x128 .f32)
    (x9 : Vec Ideal S256x2 .f32) (x10 : Vec Ideal S2048x2 .f32) :
    k2_pay103 x0 x1 x2 x3 x4 x5 x6 x7 x8 x9 x10
      = maskVec (k2_pay4 (View.ld x0 r2_0)) (Rounds.last (k2_pay4 (View.ld x0 r2_0))).thr := by
  unfold k2_pay103 k2_pay102 k2_pay101 k2_pay100 k2_pay99 k2_pay98 k2_pay97 k2_pay96 k2_pay95 k2_pay94 k2_pay93 Rounds.last
  generalize View.ld x0 r2_0 = v
  rw [one_work, one_count, one_hits, two_thr, two_got, one_hit, four_thr, four_got, four_work, four_count, four_max,
    four_hit, six_thr, six_got, six_work, six_count, six_max, six_hits, six_full, six_open, eight_mask]

theorem eye_apply (n m : Fin 256) : eyeVec (ix2 n m) = if n = m then (1 : EReal) else 0 := by
  pointwise [eyeVec]
  have h : IntOp.cmpi CmpIPredicate.eq (BitVec.ofNat 32 n.val) (BitVec.ofNat 32 m.val) = BitVec.ofBool (decide (n = m)) := by
    have hn : BitVec.ofNat 32 n.val = BitVec.ofNat 32 m.val ↔ n = m := by
      rw [← BitVec.toNat_inj, BitVec.toNat_ofNat, BitVec.toNat_ofNat, Fin.ext_iff]
      omega
    show BitVec.ofBool (BitVec.ofNat 32 n.val == BitVec.ofNat 32 m.val) = _
    congr 1
    rw [beq_eq_decide]
    exact decide_eq_decide.mpr hn
  rw [h, sitofp_ind]

theorem reach_apply (s : FVec Ideal S256x256 .f32) (t : FVec Ideal S256x1 .f32) (n m : Fin 256) :
    reach s t (ix2 n m) = if t (ix2 n 0) ≤ s (ix2 n m) then (1 : EReal) else 0 := by
  pointwise [reach]
  rw [← sitofp_ind]

/-- Three indicators add to more than a half exactly when one of the three holds. -/
theorem half_lt (p q c : Prop) [Decidable p] [Decidable q] [Decidable c] :
    BitVec.ofBool (decide (((1 / 2 : ℝ) : EReal) < ((if p then 1 else 0) + if q then 1 else 0) + if c then 1 else 0)) = 1#1
      ↔ p ∨ q ∨ c := by
  have h0 : ¬ ((1 / 2 : ℝ) : EReal) < 0 := by
    rw [← EReal.coe_zero, EReal.coe_lt_coe_iff]; norm_num
  have hone : ((1 / 2 : ℝ) : EReal) < 1 := by
    rw [← EReal.coe_one, EReal.coe_lt_coe_iff]; norm_num
  have hadd : ∀ a b : EReal, 0 ≤ a → ((1 / 2 : ℝ) : EReal) < b → ((1 / 2 : ℝ) : EReal) < a + b := fun a b ha hb =>
    lt_of_lt_of_le hb (le_add_of_nonneg_left ha)
  have hadd' : ∀ a b : EReal, 0 ≤ b → ((1 / 2 : ℝ) : EReal) < a → ((1 / 2 : ℝ) : EReal) < a + b := fun a b hb ha =>
    lt_of_lt_of_le ha (le_add_of_nonneg_right hb)
  have hp : (0 : EReal) ≤ 1 := zero_le_one
  have h11 : (0 : EReal) ≤ 1 + 1 := add_nonneg hp hp
  by_cases a : p <;> by_cases b : q <;> by_cases e : c <;>
    simp only [a, b, e, if_true, if_false, add_zero, zero_add, h0, hone, hadd _ _ h11 hone, hadd _ _ hp hone,
      decide_true, decide_false, or_true, true_or, or_self] <;> decide

/-- The mask is one exactly on adjacent nodes. -/
theorem mask_apply (s : FVec Ideal S256x256 .f32) (n m : Fin 256) :
    maskVec s (Rounds.last s).thr (ix2 n m) = 1#1 ↔ adj (fun n m => s (ix2 n m)) n m := by
  have h1 := last_splits s n m
  have h2 := last_splits s m n
  have hr := reach_apply s (Rounds.last s).thr
  generalize (Rounds.last s).thr = t at h1 h2 hr ⊢
  pointwise [maskVec]
  simp only [hr, eye_apply]
  have hsum : (∑ x, (if t (ix2 x 0) ≤ s (ix2 x n) then (1 : EReal) else 0) * if x = m then 1 else 0)
      = if t (ix2 m 0) ≤ s (ix2 m n) then 1 else 0 := by
    rw [Finset.sum_eq_single m (fun x _ hx => by rw [if_neg hx, mul_zero]) (fun h => absurd (Finset.mem_univ m) h),
      if_pos rfl, mul_one]
  rw [hsum, w_half]
  unfold adj
  beta_reduce at h1 h2
  rw [← h1, ← h2]
  exact half_lt _ _ _

theorem scores_apply (v : Vec Ideal S1x256x128 .f32) (n m : Fin 256) :
    k2_pay4 v (ix2 n m) = score (fun n d => v (ix3 0 n d)) n m := by
  pointwise [k2_pay4, k2_pay3]
  rfl

end Cert.Proof

end
-- ==== Proof.Gat.lean ====
/- The attention part of the third kernel region: two graph-attention layers and a layer norm's scaled part. -/
module

public import proofs.«01_k».proof.Proof.Mask

@[expose] public section

open scoped BigOperators

noncomputable section

namespace Cert.Proof

open Idealize.ShloMosaic Cert.KernelIdeal Cert.KernelIdeal.Gen

/-- The sum of the two ends' terms, at every pair. -/
def endsVec (p : FVec Ideal S256x1 .f32) (q : FVec Ideal S1x256 .f32) : FVec Ideal S256x256 .f32 :=
  addf (F := Ideal) (broadcastTo S256x256 p broadcasts_S256x1_S256x256) (broadcastTo S256x256 q broadcasts_S1x256_S256x256)

/-- The masked logits. -/
def logitVec (A : IVec S256x256 1) (e : FVec Ideal S256x256 .f32) : FVec Ideal S256x256 .f32 :=
  select A (select (cmpf (F := Ideal) .oge e (broadcast S256x256 (Scalar.ofBits (F := Ideal) .f32 0x00000000#32))) e
      (mulf (F := Ideal) (broadcast S256x256 (Scalar.ofBits (F := Ideal) .f32 0x3E4CCCCD#32)) e))
    (broadcast S256x256 (Scalar.ofBits (F := Ideal) .f32 0xCE6E6B28#32))

/-- A softmax's numerators. -/
def expVec (e : FVec Ideal S256x256 .f32) : FVec Ideal S256x256 .f32 :=
  exp (F := Ideal) (subf (F := Ideal) e (broadcastTo S256x256 (rmax e) broadcasts_S256x1_S256x256))

/-- The softmax of every row. -/
def softVec (e : FVec Ideal S256x256 .f32) : FVec Ideal S256x256 .f32 :=
  divf (F := Ideal) (expVec e) (broadcastTo S256x256 (shapeCast S256x1
    (multiReduction (F := Ideal) .add [1] S256 (expVec e) 0x00000000#32 reduces_S256x256_S256 (.inl rfl) rfl)
    shapeCasts_S256_S256x1) broadcasts_S256x1_S256x256)

/-- What a layer adds to the nodes, before the activation. -/
def mixVec (e : FVec Ideal S256x256 .f32) (z : FVec Ideal S256x128 .f32) : FVec Ideal S256x128 .f32 :=
  matmul (F := Ideal) dot_S256x256_S256x128_S256x128_1_0_0_1_n_n none (softVec e) z (constant S256x128 .f32 0x00000000#32)

/-- One layer with its activation and residual. -/
def gatVec (h : FVec Ideal S256x128 .f32) (e : FVec Ideal S256x256 .f32) (z : FVec Ideal S256x128 .f32) :
    FVec Ideal S256x128 .f32 :=
  addf (F := Ideal) h (select (cmpf (F := Ideal) .ogt (mixVec e z)
      (broadcast S256x128 (Scalar.ofBits (F := Ideal) .f32 0x00000000#32))) (mixVec e z)
    (subf (F := Ideal) (exp (F := Ideal) (mixVec e z)) (broadcast S256x128 (Scalar.ofBits (F := Ideal) .f32 0x3F800000#32))))

/-- The mean of every row of 128. -/
def meanVec (x : FVec Ideal S256x128 .f32) : FVec Ideal S256x1 .f32 :=
  divf (F := Ideal) (shapeCast S256x1
    (multiReduction (F := Ideal) .add [1] S256 x 0x00000000#32 reduces_S256x128_S256 (.inl rfl) rfl)
    shapeCasts_S256_S256x1) (broadcast S256x1 (Scalar.ofBits (F := Ideal) .f32 0x43000000#32))

/-- The rows less their means. -/
def centred (x : FVec Ideal S256x128 .f32) : FVec Ideal S256x128 .f32 :=
  subf (F := Ideal) x (broadcastTo S256x128 (meanVec x) broadcasts_S256x1_S256x128)

/-- The layer norm, scaled and not yet shifted. -/
def scaledVec (x : FVec Ideal S256x128 .f32) (g : Vec Ideal S1x128 .f32) : FVec Ideal S256x128 .f32 :=
  mulf (F := Ideal) (mulf (F := Ideal) (centred x) (broadcastTo S256x128 (rsqrt (F := Ideal) (addf (F := Ideal)
      (meanVec (mulf (F := Ideal) (centred x) (centred x)))
      (broadcast S256x1 (Scalar.ofBits (F := Ideal) .f32 0x3727C5AC#32)))) broadcasts_S256x1_S256x128))
    (broadcastTo S256x128 (shapeCast S1x128 g shapeCasts_S1x128_S1x128) broadcasts_S1x128_S256x128)

theorem first_eq (v1 : FVec Ideal S256x128 .f32) (A : IVec S256x256 1) (z : FVec Ideal S256x128 .f32)
    (p : FVec Ideal S256x1 .f32) (q : FVec Ideal S1x256 .f32) :
    k2_pay56 v1 A z p q = gatVec v1 (logitVec A (endsVec p q)) z := rfl

theorem second_eq (A : IVec S256x256 1) (h z : FVec Ideal S256x128 .f32) (e : FVec Ideal S256x256 .f32)
    (g : Vec Ideal S1x128 .f32) :
    k2_pay61 A h z e (cmpf (F := Ideal) .oge e (broadcast S256x256 (Scalar.ofBits (F := Ideal) .f32 0x00000000#32)))
      k2_pay60 g = scaledVec (gatVec h (logitVec A e) z) g := rfl

theorem logit_apply (A : IVec S256x256 1) (B : Fin 256 → Fin 256 → Prop) (hA : ∀ n m, A (ix2 n m) = 1#1 ↔ B n m)
    (p : FVec Ideal S256x1 .f32) (q : FVec Ideal S1x256 .f32) (n m : Fin 256) :
    logitVec A (endsVec p q) (ix2 n m) = logit B (fun n => p (ix2 n 0)) (fun m => q (ix2 0 m)) n m := by
  pointwise [logitVec, endsVec]
  unfold logit
  by_cases hB : B n m
  · rw [if_pos hB, (hA n m).mpr hB]; rfl
  · rw [if_neg hB]; exact if_neg fun e => hB ((hA n m).mp e)

theorem exp_apply (e : FVec Ideal S256x256 .f32) (n m : Fin 256) :
    expVec e (ix2 n m) = Ideal.exp (e (ix2 n m) - Finset.univ.sup fun m => e (ix2 n m)) := by
  have h := rmax_apply e n
  pointwise [expVec]
  rw [h]

theorem soft_apply (e : FVec Ideal S256x256 .f32) (n m : Fin 256) :
    softVec e (ix2 n m) = softmax (fun m => e (ix2 n m)) m := by
  have h := exp_apply e n
  unfold softmax
  pointwise [softVec]
  simp only [h]

theorem mix_apply (e : FVec Ideal S256x256 .f32) (z : FVec Ideal S256x128 .f32) (n : Fin 256) (d : Fin 128) :
    mixVec e z (ix2 n d) = ∑ m, softmax (fun m => e (ix2 n m)) m * z (ix2 m d) := by
  have h := soft_apply e n
  pointwise [mixVec]
  simp only [h]

theorem gat_apply (h z : FVec Ideal S256x128 .f32) (e : FVec Ideal S256x256 .f32) (n : Fin 256) (d : Fin 128) :
    gatVec h e z (ix2 n d) = h (ix2 n d) + elu (∑ m, softmax (fun m => e (ix2 n m)) m * z (ix2 m d)) := by
  have hm := mix_apply e z n d
  pointwise [gatVec]
  rw [hm]
  rfl

theorem mean_apply (x : FVec Ideal S256x128 .f32) (n : Fin 256) : meanVec x (ix2 n 0) = mean fun d => x (ix2 n d) := by
  unfold mean
  pointwise [meanVec]

theorem centred_apply (x : FVec Ideal S256x128 .f32) (n : Fin 256) (d : Fin 128) :
    centred x (ix2 n d) = x (ix2 n d) - mean fun d => x (ix2 n d) := by
  have h := mean_apply x n
  pointwise [centred]
  rw [h]

theorem scaled_apply (x : FVec Ideal S256x128 .f32) (g b : Vec Ideal S1x128 .f32) (n : Fin 256) (d : Fin 128) :
    scaledVec x g (ix2 n d) + b (ix2 0 d)
      = norm (fun d => x (ix2 n d)) (fun d => g (ix2 0 d)) (fun d => b (ix2 0 d)) d := by
  have h := centred_apply x n
  have hv : meanVec (mulf (F := Ideal) (centred x) (centred x)) (ix2 n 0) = var fun d => x (ix2 n d) := by
    rw [mean_apply]
    unfold var
    have e : (fun d => mulf (F := Ideal) (centred x) (centred x) (ix2 n d))
        = fun d => (x (ix2 n d) - mean fun d => x (ix2 n d)) * (x (ix2 n d) - mean fun d => x (ix2 n d)) :=
      funext fun d => by rw [← h d]; rfl
    rw [e]
    rfl
  unfold norm
  pointwise [scaledVec]
  rw [h, hv]

theorem lin_apply (x : FVec Ideal S256x128 .f32) (w : FVec Ideal S128x128 .f32) (n : Fin 256) (d : Fin 128) :
    k2_pay53 x w (ix2 n d) = lin (fun n d => x (ix2 n d)) (fun k d => w (ix2 k d)) n d := by
  unfold lin
  pointwise [k2_pay53]

/-- The first end's terms: the linear image against a vector. -/
def srcVec (z : FVec Ideal S256x128 .f32) (a : FVec Ideal S128x1 .f32) : FVec Ideal S256x1 .f32 :=
  matmul (F := Ideal) dot_S256x128_S128x1_S256x1_1_0_0_1_n_n none z (shapeCast S128x1 a shapeCasts_S128x1_S128x1)
    (constant S256x1 .f32 0x00000000#32)

/-- The other end's terms. -/
def dstVec (z : FVec Ideal S256x128 .f32) (a : FVec Ideal S1x128 .f32) : FVec Ideal S1x256 .f32 :=
  matmul (F := Ideal) dot_S1x128_S256x128_S1x256_1_1_0_0_n_n none (shapeCast S1x128 a shapeCasts_S1x128_S1x128) z
    (constant S1x256 .f32 0x00000000#32)

theorem src_apply (z : FVec Ideal S256x128 .f32) (a : FVec Ideal S128x1 .f32) (n : Fin 256) :
    srcVec z a (ix2 n 0) = ∑ k, z (ix2 n k) * a (ix2 k 0) := by
  pointwise [srcVec]

theorem dst_apply (z : FVec Ideal S256x128 .f32) (a : FVec Ideal S1x128 .f32) (n : Fin 256) :
    dstVec z a (ix2 0 n) = ∑ k, z (ix2 n k) * a (ix2 0 k) := by
  pointwise [dstVec]
  exact Finset.sum_congr rfl fun k _ => mul_comm _ _

/-- One layer, from its nodes, mask and weights. -/
def layerVec (A : IVec S256x256 1) (h : FVec Ideal S256x128 .f32) (w : FVec Ideal S128x128 .f32)
    (a : FVec Ideal S128x1 .f32) (b : FVec Ideal S1x128 .f32) : FVec Ideal S256x128 .f32 :=
  gatVec h (logitVec A (endsVec (srcVec (k2_pay53 h w) a) (dstVec (k2_pay53 h w) b))) (k2_pay53 h w)

theorem layer_apply (A : IVec S256x256 1) (B : Fin 256 → Fin 256 → Prop) (hA : ∀ n m, A (ix2 n m) = 1#1 ↔ B n m)
    (h : FVec Ideal S256x128 .f32) (w : FVec Ideal S128x128 .f32)
    (a : FVec Ideal S128x1 .f32) (b : FVec Ideal S1x128 .f32) (n : Fin 256) (d : Fin 128) :
    layerVec A h w a b (ix2 n d)
      = gat B (fun n d => h (ix2 n d)) (lin (fun n d => h (ix2 n d)) fun k d => w (ix2 k d)) (fun k => a (ix2 k 0))
          (fun k => b (ix2 0 k)) n d := by
  unfold layerVec gat
  rw [gat_apply]
  simp only [logit_apply A B hA, src_apply, dst_apply, lin_apply]

section stages

variable (v : FVec Ideal S256x128 .f32) (A : IVec S256x256 1) (z : FVec Ideal S256x128 .f32)
  (p : FVec Ideal S256x1 .f32) (q : FVec Ideal S1x256 .f32) (w : FVec Ideal S128x128 .f32) (a : FVec Ideal S128x1 .f32)
  (b : FVec Ideal S1x128 .f32)

theorem src_eq : k2_pay54 v w a = srcVec (k2_pay53 v w) a := rfl

theorem dst_eq : k2_pay55 v w b = dstVec (k2_pay53 v w) b := rfl

theorem lin_eq : k2_pay57 v A z p q w = k2_pay53 (k2_pay56 v A z p q) w := rfl

theorem ends_eq : k2_pay58 v A z p q w a b = endsVec (srcVec (k2_pay57 v A z p q w) a) (dstVec (k2_pay57 v A z p q w) b) := rfl

theorem sign_eq : k2_pay59 v A z p q w a b = cmpf (F := Ideal) .oge (k2_pay58 v A z p q w a b)
    (broadcast S256x256 (Scalar.ofBits (F := Ideal) .f32 0x00000000#32)) := rfl

end stages

/-- The scaled rows of the region are two layers and the layer norm's scaled part. -/
theorem scaled_rows (x0 : Vec Ideal S1x256x128 .f32) (x1 : Vec Ideal S128x128 .f32) (x2 : Vec Ideal S128x1 .f32)
    (x3 : Vec Ideal S1x128 .f32) (x4 : Vec Ideal S128x128 .f32) (x5 : Vec Ideal S128x1 .f32)
    (x6 : Vec Ideal S1x128 .f32) (x7 : Vec Ideal S1x128 .f32) (x8 : Vec Ideal S1x128 .f32)
    (x9 : Vec Ideal S256x2 .f32) (x10 : Vec Ideal S2048x2 .f32) :
    k2_pay107 x0 x1 x2 x3 x4 x5 x6 x7 x8 x9 x10
      = scaledVec (layerVec (k2_pay103 x0 x1 x2 x3 x4 x5 x6 x7 x8 x9 x10)
          (layerVec (k2_pay103 x0 x1 x2 x3 x4 x5 x6 x7 x8 x9 x10) (k2_pay3 (View.ld x0 r2_0)) (View.ld x1 r2_1)
            (View.ld x2 r2_2) (View.ld x3 r2_3)) (View.ld x4 r2_1) (View.ld x5 r2_2) (View.ld x6 r2_3))
          (View.ld x7 r2_3) := by
  unfold k2_pay107 k2_pay106 k2_pay105 k2_pay104 k2_pay92
  generalize k2_pay103 x0 x1 x2 x3 x4 x5 x6 x7 x8 x9 x10 = A
  rw [sign_eq, second_eq, ends_eq, lin_eq, first_eq, src_eq, dst_eq]
  rfl

theorem nodes_apply (v : Vec Ideal S1x256x128 .f32) (n : Fin 256) (d : Fin 128) :
    k2_pay3 v (ix2 n d) = v (ix3 0 n d) := by
  pointwise [k2_pay3]

/-- The region's rows, on whole blocks. -/
theorem rows_block (x0 : Vec Ideal S1x256x128 .f32) (x1 : Vec Ideal S128x128 .f32) (x2 : Vec Ideal S128x1 .f32)
    (x3 : Vec Ideal S1x128 .f32) (x4 : Vec Ideal S128x128 .f32) (x5 : Vec Ideal S128x1 .f32)
    (x6 : Vec Ideal S1x128 .f32) (x7 : Vec Ideal S1x128 .f32) (x8 : Vec Ideal S1x128 .f32)
    (x9 : Vec Ideal S256x2 .f32) (x10 : Vec Ideal S2048x2 .f32) (n : Fin 256) (d : Fin 128) :
    k2_pay107 x0 x1 x2 x3 x4 x5 x6 x7 x8 x9 x10 (ix2 n d) + x8 (ix2 0 d)
      = rows (fun n d => x0 (ix3 0 n d)) (fun k d => x1 (ix2 k d)) (fun k => x2 (ix2 k 0)) (fun k => x3 (ix2 0 k))
          (fun k d => x4 (ix2 k d)) (fun k => x5 (ix2 k 0)) (fun k => x6 (ix2 0 k)) (fun k => x7 (ix2 0 k))
          (fun k => x8 (ix2 0 k)) n d := by
  have hz : (![0, 0] : Fin 2 → ℕ) = fun _ => 0 := by funext a; fin_cases a <;> rfl
  have hz3 : (![0, 0, 0] : Fin 3 → ℕ) = fun _ => 0 := by funext a; fin_cases a <;> rfl
  have hA : ∀ n m, k2_pay103 x0 x1 x2 x3 x4 x5 x6 x7 x8 x9 x10 (ix2 n m) = 1#1
      ↔ adj (score fun n d => x0 (ix3 0 n d)) n m := by
    intro n m
    rw [mask_rounds, mask_apply, View.ld_unit_zero (S := S1x256x128) hz3]
    simp only [scores_apply]
  rw [scaled_rows]
  generalize k2_pay103 x0 x1 x2 x3 x4 x5 x6 x7 x8 x9 x10 = A at hA ⊢
  rw [scaled_apply]
  unfold rows
  rw [View.ld_unit_zero (S := S1x256x128) hz3, View.ld_unit_zero (S := S128x128) hz, View.ld_unit_zero (S := S128x128) hz,
    View.ld_unit_zero (S := S128x1) hz, View.ld_unit_zero (S := S128x1) hz, View.ld_unit_zero (S := S1x128) hz,
    View.ld_unit_zero (S := S1x128) hz, View.ld_unit_zero (S := S1x128) hz]
  simp only [layer_apply A _ hA, nodes_apply]

end Cert.Proof

end
-- ==== Proof.Head.lean ====
/- The third kernel region's results: the pooled embedding and the classifier's two logits. -/
module

public import proofs.«01_k».proof.Proof.Gat
public import proofs.«01_k».proof.Proof.Spline

@[expose] public section

open scoped BigOperators

noncomputable section

namespace Cert.Proof

open Idealize.ShloMosaic Cert.KernelIdeal Cert.KernelIdeal.Gen

/-- The pooled row: the columns' means, then their maxima. -/
theorem pooled_apply (y : FVec Ideal S256x128 .f32) (s : Vec Ideal S1x128 .f32) (j : Fin 256) :
    k2_pay62 y s (ix2 0 j) = pooled (fun n d => y (ix2 n d) + s (ix2 0 d)) j := by
  unfold pooled
  pointwise [k2_pay62]
  rw [w_neg_inf]
  rfl

section cells
variable (y : FVec Ideal S256x128 .f32) (s : Vec Ideal S1x128 .f32) (i : Fin 256)

theorem c_cell : k2_pay66 y s (ix2 0 i) = cell (k2_pay62 y s (ix2 0 i)) := by
  unfold k2_pay66 k2_pay65
  generalize k2_pay62 y s = x
  pointwise
  rw [k_g0, w_five_halves]; rfl

theorem c_frac : k2_pay67 y s (ix2 0 i) = frac (k2_pay62 y s (ix2 0 i)) := by
  have h := c_cell y s i
  unfold k2_pay67 k2_pay65
  generalize k2_pay66 y s = z at h ⊢
  generalize k2_pay62 y s = x at h ⊢
  pointwise
  rw [h, k_g0, w_five_halves]; rfl

theorem c_piece0 : k2_pay69 y s (ix2 0 i) = piece0 (frac (k2_pay62 y s (ix2 0 i))) := by
  have h := c_frac y s i
  pointwise [k2_pay69, k2_pay68]
  rw [h, k_sixth]; rfl

theorem c_piece3 : k2_pay70 y s (ix2 0 i) = piece3 (frac (k2_pay62 y s (ix2 0 i))) := by
  have h := c_frac y s i
  pointwise [k2_pay70]
  rw [h, k_sixth]; rfl

theorem c_piece1 : k2_pay72 (k2_pay67 y s) (k2_pay71 y s) (ix2 0 i) = piece1 (frac (k2_pay62 y s (ix2 0 i))) := by
  have h := c_frac y s i
  pointwise [k2_pay72, k2_pay71]
  rw [h, k_sixth, w_three, w_neg_three]; rfl

theorem c_piece2 : k2_pay73 (k2_pay67 y s) (k2_pay68 y s) (ix2 0 i) = piece2 (frac (k2_pay62 y s (ix2 0 i))) := by
  have h := c_frac y s i
  pointwise [k2_pay73, k2_pay68]
  rw [h, k_sixth, w_three, w_four, w_six]; rfl

theorem c_in0 : k2_pay74 (k2_pay66 y s) (ix2 0 i) = inCell 0 (k2_pay62 y s (ix2 0 i)) := by
  have h := c_cell y s i
  pointwise [k2_pay74]
  rw [h]; rw [sitofp_ind]; unfold inCell; congr
theorem c_in1 : k2_pay75 (k2_pay66 y s) (ix2 0 i) = inCell 1 (k2_pay62 y s (ix2 0 i)) := by
  have h := c_cell y s i
  pointwise [k2_pay75]
  rw [h]; rw [sitofp_ind]; unfold inCell; congr
theorem c_in2 : k2_pay76 (k2_pay66 y s) (ix2 0 i) = inCell 2 (k2_pay62 y s (ix2 0 i)) := by
  have h := c_cell y s i
  pointwise [k2_pay76]
  rw [h, w_two]; rw [sitofp_ind]; unfold inCell; congr
theorem c_in3 : k2_pay77 (k2_pay66 y s) (ix2 0 i) = inCell 3 (k2_pay62 y s (ix2 0 i)) := by
  have h := c_cell y s i
  pointwise [k2_pay77]
  rw [h, w_three]; rw [sitofp_ind]; unfold inCell; congr
theorem c_in4 : k2_pay78 (k2_pay66 y s) (ix2 0 i) = inCell 4 (k2_pay62 y s (ix2 0 i)) := by
  have h := c_cell y s i
  pointwise [k2_pay78]
  rw [h, w_four]; rw [sitofp_ind]; unfold inCell; congr
theorem c_in5 : k2_pay79 (k2_pay66 y s) (ix2 0 i) = inCell 5 (k2_pay62 y s (ix2 0 i)) := by
  have h := c_cell y s i
  pointwise [k2_pay79]
  rw [h, w_five]; rw [sitofp_ind]; unfold inCell; congr
theorem c_in6 : k2_pay80 (k2_pay66 y s) (ix2 0 i) = inCell 6 (k2_pay62 y s (ix2 0 i)) := by
  have h := c_cell y s i
  pointwise [k2_pay80]
  rw [h, w_six]; rw [sitofp_ind]; unfold inCell; congr
theorem c_in7 : k2_pay81 (k2_pay66 y s) (ix2 0 i) = inCell 7 (k2_pay62 y s (ix2 0 i)) := by
  have h := c_cell y s i
  pointwise [k2_pay81]
  rw [h, w_seven]; rw [sitofp_ind]; unfold inCell; congr
theorem c_in8 : k2_pay82 (k2_pay66 y s) (ix2 0 i) = inCell 8 (k2_pay62 y s (ix2 0 i)) := by
  have h := c_cell y s i
  pointwise [k2_pay82]
  rw [h, w_eight]; rw [sitofp_ind]; unfold inCell; congr
theorem c_in9 : k2_pay83 (k2_pay66 y s) (ix2 0 i) = inCell 9 (k2_pay62 y s (ix2 0 i)) := by
  have h := c_cell y s i
  pointwise [k2_pay83]
  rw [h, w_nine]; rw [sitofp_ind]; unfold inCell; congr
theorem c_in10 : k2_pay84 (k2_pay66 y s) (ix2 0 i) = inCell 10 (k2_pay62 y s (ix2 0 i)) := by
  have h := c_cell y s i
  pointwise [k2_pay84]
  rw [h, w_ten]; rw [sitofp_ind]; unfold inCell; congr

theorem c_t0 : (k2_pay85 (k2_pay69 y s) (k2_pay70 y s) (k2_pay72 (k2_pay67 y s) (k2_pay71 y s)) (k2_pay73 (k2_pay67 y s) (k2_pay68 y s)) (k2_pay74 (k2_pay66 y s)) (k2_pay75 (k2_pay66 y s)) (k2_pay76 (k2_pay66 y s)) (k2_pay77 (k2_pay66 y s))) (ix2 0 i) = basis 3 0 (k2_pay62 y s (ix2 0 i)) := by
  rw [← closed_zero]
  have h0 := c_piece0 y s i
  have h1 := c_piece1 y s i
  have h2 := c_piece2 y s i
  have h3 := c_piece3 y s i
  have e0 := c_in0 y s i
  have e1 := c_in1 y s i
  have e2 := c_in2 y s i
  have e3 := c_in3 y s i
  pointwise [k2_pay85]
  rw [h0, h1, h2, h3, e0, e1, e2, e3]
  rfl
theorem c_t1 : (k2_pay86 (k2_pay69 y s) (k2_pay70 y s) (k2_pay72 (k2_pay67 y s) (k2_pay71 y s)) (k2_pay73 (k2_pay67 y s) (k2_pay68 y s)) (k2_pay75 (k2_pay66 y s)) (k2_pay76 (k2_pay66 y s)) (k2_pay77 (k2_pay66 y s)) (k2_pay78 (k2_pay66 y s))) (ix2 0 i) = basis 3 1 (k2_pay62 y s (ix2 0 i)) := by
  rw [← closed_one]
  have h0 := c_piece0 y s i
  have h1 := c_piece1 y s i
  have h2 := c_piece2 y s i
  have h3 := c_piece3 y s i
  have e0 := c_in1 y s i
  have e1 := c_in2 y s i
  have e2 := c_in3 y s i
  have e3 := c_in4 y s i
  pointwise [k2_pay86]
  rw [h0, h1, h2, h3, e0, e1, e2, e3]
  rfl
theorem c_t2 : (k2_pay87 (k2_pay69 y s) (k2_pay70 y s) (k2_pay72 (k2_pay67 y s) (k2_pay71 y s)) (k2_pay73 (k2_pay67 y s) (k2_pay68 y s)) (k2_pay76 (k2_pay66 y s)) (k2_pay77 (k2_pay66 y s)) (k2_pay78 (k2_pay66 y s)) (k2_pay79 (k2_pay66 y s))) (ix2 0 i) = basis 3 2 (k2_pay62 y s (ix2 0 i)) := by
  rw [← closed_two]
  have h0 := c_piece0 y s i
  have h1 := c_piece1 y s i
  have h2 := c_piece2 y s i
  have h3 := c_piece3 y s i
  have e0 := c_in2 y s i
  have e1 := c_in3 y s i
  have e2 := c_in4 y s i
  have e3 := c_in5 y s i
  pointwise [k2_pay87]
  rw [h0, h1, h2, h3, e0, e1, e2, e3]
  rfl
theorem c_t3 : (k2_pay88 (k2_pay69 y s) (k2_pay70 y s) (k2_pay72 (k2_pay67 y s) (k2_pay71 y s)) (k2_pay73 (k2_pay67 y s) (k2_pay68 y s)) (k2_pay77 (k2_pay66 y s)) (k2_pay78 (k2_pay66 y s)) (k2_pay79 (k2_pay66 y s)) (k2_pay80 (k2_pay66 y s))) (ix2 0 i) = basis 3 3 (k2_pay62 y s (ix2 0 i)) := by
  rw [← closed_three]
  have h0 := c_piece0 y s i
  have h1 := c_piece1 y s i
  have h2 := c_piece2 y s i
  have h3 := c_piece3 y s i
  have e0 := c_in3 y s i
  have e1 := c_in4 y s i
  have e2 := c_in5 y s i
  have e3 := c_in6 y s i
  pointwise [k2_pay88]
  rw [h0, h1, h2, h3, e0, e1, e2, e3]
  rfl
theorem c_t4 : (k2_pay89 (k2_pay69 y s) (k2_pay70 y s) (k2_pay72 (k2_pay67 y s) (k2_pay71 y s)) (k2_pay73 (k2_pay67 y s) (k2_pay68 y s)) (k2_pay78 (k2_pay66 y s)) (k2_pay79 (k2_pay66 y s)) (k2_pay80 (k2_pay66 y s)) (k2_pay81 (k2_pay66 y s))) (ix2 0 i) = basis 3 4 (k2_pay62 y s (ix2 0 i)) := by
  rw [← closed_four]
  have h0 := c_piece0 y s i
  have h1 := c_piece1 y s i
  have h2 := c_piece2 y s i
  have h3 := c_piece3 y s i
  have e0 := c_in4 y s i
  have e1 := c_in5 y s i
  have e2 := c_in6 y s i
  have e3 := c_in7 y s i
  pointwise [k2_pay89]
  rw [h0, h1, h2, h3, e0, e1, e2, e3]
  rfl
theorem c_t5 : (k2_pay90 (k2_pay66 y s) (k2_pay69 y s) (k2_pay70 y s) (k2_pay72 (k2_pay67 y s) (k2_pay71 y s)) (k2_pay73 (k2_pay67 y s) (k2_pay68 y s)) (k2_pay79 (k2_pay66 y s)) (k2_pay80 (k2_pay66 y s)) (k2_pay81 (k2_pay66 y s))) (ix2 0 i) = basis 3 5 (k2_pay62 y s (ix2 0 i)) := by
  rw [← closed_five]
  have h0 := c_piece0 y s i
  have h1 := c_piece1 y s i
  have h2 := c_piece2 y s i
  have h3 := c_piece3 y s i
  have e0 := c_in5 y s i
  have e1 := c_in6 y s i
  have e2 := c_in7 y s i
  have e3 := c_in8 y s i
  pointwise [k2_pay90]
  rw [h0, h1, h2, h3, e0, e1, e2, e3]
  rfl
theorem c_t7 : (k2_pay1 (k2_pay69 y s) (k2_pay70 y s) (k2_pay72 (k2_pay67 y s) (k2_pay71 y s)) (k2_pay73 (k2_pay67 y s) (k2_pay68 y s)) (k2_pay81 (k2_pay66 y s)) (k2_pay82 (k2_pay66 y s)) (k2_pay83 (k2_pay66 y s)) (k2_pay84 (k2_pay66 y s))) (ix2 0 i) = basis 3 7 (k2_pay62 y s (ix2 0 i)) := by
  rw [← closed_seven]
  have h0 := c_piece0 y s i
  have h1 := c_piece1 y s i
  have h2 := c_piece2 y s i
  have h3 := c_piece3 y s i
  have e0 := c_in7 y s i
  have e1 := c_in8 y s i
  have e2 := c_in9 y s i
  have e3 := c_in10 y s i
  pointwise [k2_pay1]
  rw [h0, h1, h2, h3, e0, e1, e2, e3]
  rfl
theorem c_t6 : addf (F := Ideal) (addf (F := Ideal) (k2_pay91 (k2_pay69 y s) (k2_pay72 (k2_pay67 y s) (k2_pay71 y s)) (k2_pay80 (k2_pay66 y s)) (k2_pay81 (k2_pay66 y s))) (mulf (F := Ideal) (k2_pay73 (k2_pay67 y s) (k2_pay68 y s)) (k2_pay82 (k2_pay66 y s)))) (mulf (F := Ideal) (k2_pay70 y s) (k2_pay83 (k2_pay66 y s))) (ix2 0 i) = basis 3 6 (k2_pay62 y s (ix2 0 i)) := by
  rw [← closed_six]
  have h0 := c_piece0 y s i
  have h1 := c_piece1 y s i
  have h2 := c_piece2 y s i
  have h3 := c_piece3 y s i
  have e0 := c_in6 y s i
  have e1 := c_in7 y s i
  have e2 := c_in8 y s i
  have e3 := c_in9 y s i
  pointwise [k2_pay91]
  rw [h0, h1, h2, h3, e0, e1, e2, e3]
  rfl

end cells

/-- The logits of a row from its base term and its eight stacked basis vectors. -/
theorem stacked (x : FVec Ideal S1x256 .f32) (base : FVec Ideal S1x2 .f32) (p3 p2 e8 e9 t0 t1 t2 t3 t4 t5 t6 t7 : FVec Ideal S1x256 .f32)
    (w : FVec Ideal S2048x2 .f32) (o : Fin 2)
    (hp0 : ∀ i, t0 (ix2 0 i) = basis 3 0 (x (ix2 0 i))) (hp1 : ∀ i, t1 (ix2 0 i) = basis 3 1 (x (ix2 0 i)))
    (hp2 : ∀ i, t2 (ix2 0 i) = basis 3 2 (x (ix2 0 i))) (hp3 : ∀ i, t3 (ix2 0 i) = basis 3 3 (x (ix2 0 i)))
    (hp4 : ∀ i, t4 (ix2 0 i) = basis 3 4 (x (ix2 0 i))) (hp5 : ∀ i, t5 (ix2 0 i) = basis 3 5 (x (ix2 0 i)))
    (hp6 : ∀ i, addf (F := Ideal) (addf (F := Ideal) t6 (mulf (F := Ideal) p2 e8)) (mulf (F := Ideal) p3 e9) (ix2 0 i)
      = basis 3 6 (x (ix2 0 i)))
    (hp7 : ∀ i, t7 (ix2 0 i) = basis 3 7 (x (ix2 0 i))) :
    k2_pay2 base p3 p2 e8 e9 t0 t1 t2 t3 t4 t5 t6 t7 w (ix3 0 0 o)
      = base (ix2 0 o) + ∑ i : Fin 256, ∑ c : Fin 8, basis 3 c.val (x (ix2 0 i)) * w (ix2 ⟨c.val * 256 + i.val, by omega⟩ o) := by
  have hs : ∀ o : Fin 2048, concatenate S1x2048 1 [⟨S1x256, t0⟩, ⟨S1x256, t1⟩, ⟨S1x256, t2⟩, ⟨S1x256, t3⟩, ⟨S1x256, t4⟩,
      ⟨S1x256, t5⟩, ⟨S1x256, addf (F := Ideal) (addf (F := Ideal) t6 (mulf (F := Ideal) p2 e8)) (mulf (F := Ideal) p3 e9)⟩,
      ⟨S1x256, t7⟩] concatenates_S1x256_S1x256_S1x256_S1x256_S1x256_S1x256_S1x256_S1x256_S1x2048_d1 (ix2 0 o)
      = basis 3 (o.val / 256) (x (ix2 0 ⟨o.val % 256, Nat.mod_lt _ (by norm_num)⟩)) := by
    intro o
    generalize addf (F := Ideal) (addf (F := Ideal) t6 (mulf (F := Ideal) p2 e8)) (mulf (F := Ideal) p3 e9) = t6' at hp6 ⊢
    pointwise
    have ho := o.isLt
    have key : ∀ (c n : ℕ) (hn : n < 256), o.val = c * 256 + n → ∀ v, v = basis 3 c (x (ix2 0 ⟨n, hn⟩)) →
        v = basis 3 (o.val / 256) (x (ix2 0 ⟨o.val % 256, Nat.mod_lt _ (by norm_num)⟩)) := by
      intro c n hn h v hv
      have h1 : o.val / 256 = c := by omega
      have h2 : (⟨o.val % 256, Nat.mod_lt _ (by norm_num)⟩ : Fin 256) = ⟨n, hn⟩ :=
        Fin.ext (by show o.val % 256 = n; omega)
      rw [h1, h2]; exact hv
    by_cases h0 : o.val < 256
    · rw [dif_pos h0]
      refine key 0 (o.val) (by omega) (by omega) _ (hp0 _)
    by_cases h1 : o.val - 256 < 256
    · rw [dif_neg h0, dif_pos h1]
      refine key 1 (o.val - 256) (by omega) (by omega) _ (hp1 _)
    by_cases h2 : o.val - 256 - 256 < 256
    · rw [dif_neg h0, dif_neg h1, dif_pos h2]
      refine key 2 (o.val - 256 - 256) (by omega) (by omega) _ (hp2 _)
    by_cases h3 : o.val - 256 - 256 - 256 < 256
    · rw [dif_neg h0, dif_neg h1, dif_neg h2, dif_pos h3]
      refine key 3 (o.val - 256 - 256 - 256) (by omega) (by omega) _ (hp3 _)
    by_cases h4 : o.val - 256 - 256 - 256 - 256 < 256
    · rw [dif_neg h0, dif_neg h1, dif_neg h2, dif_neg h3, dif_pos h4]
      refine key 4 (o.val - 256 - 256 - 256 - 256) (by omega) (by omega) _ (hp4 _)
    by_cases h5 : o.val - 256 - 256 - 256 - 256 - 256 < 256
    · rw [dif_neg h0, dif_neg h1, dif_neg h2, dif_neg h3, dif_neg h4, dif_pos h5]
      refine key 5 (o.val - 256 - 256 - 256 - 256 - 256) (by omega) (by omega) _ (hp5 _)
    by_cases h6 : o.val - 256 - 256 - 256 - 256 - 256 - 256 < 256
    · rw [dif_neg h0, dif_neg h1, dif_neg h2, dif_neg h3, dif_neg h4, dif_neg h5, dif_pos h6]
      refine key 6 (o.val - 256 - 256 - 256 - 256 - 256 - 256) (by omega) (by omega) _ (hp6 _)
    rw [dif_neg h0, dif_neg h1, dif_neg h2, dif_neg h3, dif_neg h4, dif_neg h5, dif_neg h6]
    refine key 7 (o.val - 256 - 256 - 256 - 256 - 256 - 256 - 256) (by omega) (by omega) _ (hp7 _)

  unfold k2_pay2
  generalize concatenate S1x2048 1 _ _ = v at hs ⊢
  pointwise
  simp only [hs]
  congr 1
  refine (sum_blocks 8 256 _).trans ?_
  refine Finset.sum_congr rfl fun i _ => Finset.sum_congr rfl fun c _ => ?_
  have hi := i.isLt
  have e1 : (c.val * 256 + i.val) / 256 = c.val := by omega
  have e2 : (⟨(c.val * 256 + i.val) % 256, Nat.mod_lt _ (by norm_num)⟩ : Fin 256) = i :=
    Fin.ext (by show (c.val * 256 + i.val) % 256 = i.val; omega)
  show basis 3 ((c.val * 256 + i.val) / 256)
    (x (ix2 0 ⟨(c.val * 256 + i.val) % 256, Nat.mod_lt _ (by norm_num)⟩)) * _ = _
  rw [e1, e2]

theorem base_apply (y : FVec Ideal S256x128 .f32) (s : Vec Ideal S1x128 .f32) (b : FVec Ideal S256x2 .f32) (o : Fin 2) :
    k2_pay64 y s b (ix2 0 o) = ∑ i, silu (k2_pay62 y s (ix2 0 i)) * b (ix2 i o) := by
  unfold k2_pay64
  generalize k2_pay62 y s = x
  pointwise [silu]

section block
variable (x0 : Vec Ideal S1x256x128 .f32) (x1 : Vec Ideal S128x128 .f32) (x2 : Vec Ideal S128x1 .f32)
  (x3 : Vec Ideal S1x128 .f32) (x4 : Vec Ideal S128x128 .f32) (x5 : Vec Ideal S128x1 .f32)
  (x6 : Vec Ideal S1x128 .f32) (x7 : Vec Ideal S1x128 .f32) (x8 : Vec Ideal S1x128 .f32)
  (x9 : Vec Ideal S256x2 .f32) (x10 : Vec Ideal S2048x2 .f32)

/-- The pooled embedding of a block. -/
def emb (j : Fin 256) : EReal :=
  pooled (rows (fun n d => x0 (ix3 0 n d)) (fun k d => x1 (ix2 k d)) (fun k => x2 (ix2 k 0)) (fun k => x3 (ix2 0 k))
    (fun k d => x4 (ix2 k d)) (fun k => x5 (ix2 k 0)) (fun k => x6 (ix2 0 k)) (fun k => x7 (ix2 0 k))
    (fun k => x8 (ix2 0 k))) j

theorem emb_eq (j : Fin 256) : k2_pay62 (k2_pay107 x0 x1 x2 x3 x4 x5 x6 x7 x8 x9 x10) x8 (ix2 0 j)
    = emb x0 x1 x2 x3 x4 x5 x6 x7 x8 j := by
  rw [pooled_apply]
  exact congrArg (pooled · j) (funext fun n => funext fun d => rows_block x0 x1 x2 x3 x4 x5 x6 x7 x8 x9 x10 n d)

theorem emb_block (j : Fin 256) : out2_11 x0 x1 x2 x3 x4 x5 x6 x7 x8 x9 x10 (ix3 0 0 j)
    = emb x0 x1 x2 x3 x4 x5 x6 x7 x8 j := by
  have hz : (![0, 0] : Fin 2 → ℕ) = fun _ => 0 := by funext a; fin_cases a <;> rfl
  have hz3 : (![0, 0, 0] : Fin 3 → ℕ) = fun _ => 0 := by funext a; fin_cases a <;> rfl
  have h := emb_eq x0 x1 x2 x3 x4 x5 x6 x7 x8 x9 x10 j
  unfold out2_11
  generalize k2_pay107 x0 x1 x2 x3 x4 x5 x6 x7 x8 x9 x10 = y at h ⊢
  rw [View.canon_unit_zero (S := S1x1x256) hz3, View.ld_unit_zero (S := S1x128) hz]
  unfold k2_pay63
  generalize k2_pay62 y x8 = e at h ⊢
  pointwise
  exact h

theorem logits_block (o : Fin 2) : out2_12 x0 x1 x2 x3 x4 x5 x6 x7 x8 x9 x10 (ix3 0 0 o)
    = kan (emb x0 x1 x2 x3 x4 x5 x6 x7 x8) (fun i => x9 (ix2 i o)) (fun i c => x10 (ix2 ⟨c.val * 256 + i.val, by omega⟩ o)) := by
  have hz : (![0, 0] : Fin 2 → ℕ) = fun _ => 0 := by funext a; fin_cases a <;> rfl
  have hz3 : (![0, 0, 0] : Fin 3 → ℕ) = fun _ => 0 := by funext a; fin_cases a <;> rfl
  have h := emb_eq x0 x1 x2 x3 x4 x5 x6 x7 x8 x9 x10
  unfold out2_12 k2_pay122 k2_pay121 k2_pay120 k2_pay119 k2_pay118 k2_pay117 k2_pay116 k2_pay115 k2_pay114 k2_pay113 k2_pay112 k2_pay111 k2_pay110 k2_pay109 k2_pay108
  generalize k2_pay107 x0 x1 x2 x3 x4 x5 x6 x7 x8 x9 x10 = y at h ⊢
  rw [View.canon_unit_zero (S := S1x1x2) hz3, View.ld_unit_zero (S := S1x128) hz, View.ld_unit_zero (S := S256x2) hz,
    View.ld_unit_zero (S := S2048x2) hz]
  rw [stacked (k2_pay62 y x8) _ _ _ _ _ _ _ _ _ _ _ _ _ _ o (c_t0 y x8) (c_t1 y x8) (c_t2 y x8) (c_t3 y x8) (c_t4 y x8)
    (c_t5 y x8) (c_t6 y x8) (c_t7 y x8), base_apply]
  unfold kan
  simp only [h]

end block

end Cert.Proof

end
-- ==== Proof.HeadArray.lean ====
/- What the third kernel region leaves in its two result arrays: the embedding and the logits of every sample, each grid
   point writing one sample. -/
module

public import proofs.«01_k».proof.Proof.Head
public import Idealize.ShloMosaic.Lib.Pipeline.ValueKit

@[expose] public section

open scoped BigOperators

noncomputable section

namespace Cert.Proof

open Idealize.ShloMosaic Idealize.ShloMosaic.TcCoe Idealize.ShloMosaic.Pipeline Cert.KernelIdeal Cert.KernelIdeal.Gen

variable (V : (c : Dev nD) → (b : Ref sig .tc) → Buf (Elt Ideal) ((c : Thread nD τ).loc b))

/-- The sample `s` of an array of nodes, as one block. -/
def sample (x : Vec Ideal S4x256x128 .f32) (s : Fin 4) : Vec Ideal S1x256x128 .f32 := fun y => x (ix3 s (y 1) (y 2))

section arrays

variable (x0 : Vec Ideal S4x256x128 .f32) (x1 : Vec Ideal S128x128 .f32) (x2 : Vec Ideal S128x1 .f32)
  (x3 : Vec Ideal S1x128 .f32) (x4 : Vec Ideal S128x128 .f32) (x5 : Vec Ideal S128x1 .f32)
  (x6 : Vec Ideal S1x128 .f32) (x7 : Vec Ideal S1x128 .f32) (x8 : Vec Ideal S1x128 .f32)
  (x9 : Vec Ideal S256x2 .f32) (x10 : Vec Ideal S2048x2 .f32)

/-- The embeddings, as an array. -/
def embArr : Vec Ideal S4x1x256 .f32 := fun y => emb (sample x0 (y 0)) x1 x2 x3 x4 x5 x6 x7 x8 (y 2)

/-- The logits, as an array. -/
def logitsArr : Vec Ideal S4x1x2 .f32 := fun y =>
  kan (emb (sample x0 (y 0)) x1 x2 x3 x4 x5 x6 x7 x8) (fun i => x9 (ix2 i (y 2)))
    (fun i c => x10 (ix2 ⟨c.val * 256 + i.val, by omega⟩ (y 2)))

end arrays

theorem idx2_0 : ∀ t : Fin cfg2.N, win2_0.index t = ![t.val, 0, 0] := (by decide +kernel : ∀ t : Fin grid2.N, _)
theorem idx2_11 : ∀ t : Fin cfg2.N, win2_11.index t = ![t.val, 0, 0] := (by decide +kernel : ∀ t : Fin grid2.N, _)
theorem idx2_12 : ∀ t : Fin cfg2.N, win2_12.index t = ![t.val, 0, 0] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![0, 0] := (by decide +kernel : ∀ t : Fin grid2.N, _)
theorem idx2_7 : ∀ t : Fin cfg2.N, win2_7.index t = ![0, 0] := (by decide +kernel : ∀ t : Fin grid2.N, _)
theorem idx2_8 : ∀ t : Fin cfg2.N, win2_8.index t = ![0, 0] := (by decide +kernel : ∀ t : Fin grid2.N, _)
theorem idx2_9 : ∀ t : Fin cfg2.N, win2_9.index t = ![0, 0] := (by decide +kernel : ∀ t : Fin grid2.N, _)
theorem idx2_10 : ∀ t : Fin cfg2.N, win2_10.index t = ![0, 0] := (by decide +kernel : ∀ t : Fin grid2.N, _)

theorem h11_e0 (c : Dev nD) (t : Fin cfg2.N) (j : Fin 256) :
    iblk2 V c 0 t = sample (V c main_v15) ((win2_11.blk t).view.emb (ix3 0 0 j) 0) := by
  funext i
  revert i
  show ∀ i : S1x256x128.Idx, _
  intro i
  obtain ⟨z, n, d, rfl⟩ : ∃ (z : Fin 1) (n : Fin 256) (d : Fin 128), i = ix3 z n d := ⟨i 0, i 1, i 2, eq_ix3 i⟩
  obtain rfl : z = 0 := Subsingleton.elim _ _
  show _ = V c main_v15 (ix3 ((win2_11.blk t).view.emb (ix3 0 0 j) 0) n d)
  blk_simp [iblk2]
  congr 1
  blk_ext [idx2_0, idx2_11]

theorem h12_e0 (c : Dev nD) (t : Fin cfg2.N) (j : Fin 2) :
    iblk2 V c 0 t = sample (V c main_v15) ((win2_12.blk t).view.emb (ix3 0 0 j) 0) := by
  funext i
  revert i
  show ∀ i : S1x256x128.Idx, _
  intro i
  obtain ⟨z, n, d, rfl⟩ : ∃ (z : Fin 1) (n : Fin 256) (d : Fin 128), i = ix3 z n d := ⟨i 0, i 1, i 2, eq_ix3 i⟩
  obtain rfl : z = 0 := Subsingleton.elim _ _
  show _ = V c main_v15 (ix3 ((win2_12.blk t).view.emb (ix3 0 0 j) 0) n d)
  blk_simp [iblk2]
  congr 1
  blk_ext [idx2_0, idx2_12]

theorem h_e1 (c : Dev nD) (t : Fin cfg2.N) : iblk2 V c 1 t = V c main_arg8 := by
  funext i
  revert i
  show ∀ i : S128x128.Idx, _
  intro i
  blk_simp [iblk2]
  congr 1
  blk_ext [idx2_1]

theorem h_e2 (c : Dev nD) (t : Fin cfg2.N) : iblk2 V c 2 t = V c main_v16 := by
  funext i
  revert i
  show ∀ i : S128x1.Idx, _
  intro i
  blk_simp [iblk2]
  congr 1
  blk_ext [idx2_2]

theorem h_e3 (c : Dev nD) (t : Fin cfg2.N) : iblk2 V c 3 t = V c main_v17 := by
  funext i
  revert i
  show ∀ i : S1x128.Idx, _
  intro i
  blk_simp [iblk2]
  congr 1
  blk_ext [idx2_3]

theorem h_e4 (c : Dev nD) (t : Fin cfg2.N) : iblk2 V c 4 t = V c main_arg11 := by
  funext i
  revert i
  show ∀ i : S128x128.Idx, _
  intro i
  blk_simp [iblk2]
  congr 1
  blk_ext [idx2_4]

theorem h_e5 (c : Dev nD) (t : Fin cfg2.N) : iblk2 V c 5 t = V c main_v18 := by
  funext i
  revert i
  show ∀ i : S128x1.Idx, _
  intro i
  blk_simp [iblk2]
  congr 1
  blk_ext [idx2_5]

theorem h_e6 (c : Dev nD) (t : Fin cfg2.N) : iblk2 V c 6 t = V c main_v19 := by
  funext i
  revert i
  show ∀ i : S1x128.Idx, _
  intro i
  blk_simp [iblk2]
  congr 1
  blk_ext [idx2_6]

theorem h_e7 (c : Dev nD) (t : Fin cfg2.N) : iblk2 V c 7 t = V c main_v20 := by
  funext i
  revert i
  show ∀ i : S1x128.Idx, _
  intro i
  blk_simp [iblk2]
  congr 1
  blk_ext [idx2_7]

theorem h_e8 (c : Dev nD) (t : Fin cfg2.N) : iblk2 V c 8 t = V c main_v21 := by
  funext i
  revert i
  show ∀ i : S1x128.Idx, _
  intro i
  blk_simp [iblk2]
  congr 1
  blk_ext [idx2_8]

theorem h_e9 (c : Dev nD) (t : Fin cfg2.N) : iblk2 V c 9 t = V c main_v7 := by
  funext i
  revert i
  show ∀ i : S256x2.Idx, _
  intro i
  blk_simp [iblk2]
  congr 1
  blk_ext [idx2_9]

theorem h_e10 (c : Dev nD) (t : Fin cfg2.N) : iblk2 V c 10 t = V c main_v9 := by
  funext i
  revert i
  show ∀ i : S2048x2.Idx, _
  intro i
  blk_simp [iblk2]
  congr 1
  blk_ext [idx2_10]

theorem emb_array (c : Dev nD) : (dat2 V c).arrAt 11 cfg2.N
    = embArr (V c main_v15) (V c main_arg8) (V c main_v16) (V c main_v17) (V c main_arg11) (V c main_v18) (V c main_v19) (V c main_v20) (V c main_v21) := by
  refine (dat2 V c).arrAt_eq_of_covers 11 _ (by decide +kernel) fun t hf y => ?_
  blk_simp
  rw [after2_11]
  obtain ⟨z, z', j, rfl⟩ : ∃ (z z' : Fin 1) (j : Fin 256), y = ix3 z z' j := ⟨y 0, y 1, y 2, eq_ix3 y⟩
  obtain rfl : z = 0 := Subsingleton.elim _ _
  obtain rfl : z' = 0 := Subsingleton.elim _ _
  refine (emb_block _ _ _ _ _ _ _ _ _ _ _ j).trans ?_
  unfold embArr
  have p2 : (win2_11.blk t).view.emb (ix3 0 0 j) 2 = j := by
    apply Fin.ext; blk_simp [idx2_11]
  rw [p2, h11_e0 V c t j, h_e1, h_e2, h_e3, h_e4, h_e5, h_e6, h_e7, h_e8]

theorem logits_array (c : Dev nD) : (dat2 V c).arrAt 12 cfg2.N
    = logitsArr (V c main_v15) (V c main_arg8) (V c main_v16) (V c main_v17) (V c main_arg11) (V c main_v18) (V c main_v19) (V c main_v20) (V c main_v21) (V c main_v7) (V c main_v9) := by
  refine (dat2 V c).arrAt_eq_of_covers 12 _ (by decide +kernel) fun t hf y => ?_
  blk_simp
  rw [after2_12]
  obtain ⟨z, z', j, rfl⟩ : ∃ (z z' : Fin 1) (j : Fin 2), y = ix3 z z' j := ⟨y 0, y 1, y 2, eq_ix3 y⟩
  obtain rfl : z = 0 := Subsingleton.elim _ _
  obtain rfl : z' = 0 := Subsingleton.elim _ _
  refine (logits_block _ _ _ _ _ _ _ _ _ _ _ j).trans ?_
  unfold logitsArr
  have p2 : (win2_12.blk t).view.emb (ix3 0 0 j) 2 = j := by
    apply Fin.ext; blk_simp [idx2_12]
  rw [p2, h12_e0 V c t j, h_e1, h_e2, h_e3, h_e4, h_e5, h_e6, h_e7, h_e8, h_e9, h_e10]

end Cert.Proof

end
-- ==== Proof.Answer.lean ====
/- The whole network as one function of its argument arrays. -/
module

public import proofs.«01_k».proof.Proof.Spec

@[expose] public section

noncomputable section

namespace Cert.Proof

open Idealize.ShloMosaic

/-- The network's input and weights, each by its indices. -/
structure Args where
  x : Fin 4 → Fin 2048 → Fin 256 → EReal
  bridge : Fin 128 → Fin 256 → EReal
  bridgeSpline : Fin 128 → Fin 256 → Fin 8 → EReal
  conv₁ : Fin 128 → Fin 128 → Fin 3 → EReal
  bias₁ : Fin 128 → EReal
  conv₂ : Fin 128 → Fin 128 → Fin 3 → EReal
  bias₂ : Fin 128 → EReal
  pos : Fin 256 → Fin 128 → EReal
  w₁ : Fin 128 → Fin 128 → EReal
  a₁ : Fin 128 → EReal
  b₁ : Fin 128 → EReal
  w₂ : Fin 128 → Fin 128 → EReal
  a₂ : Fin 128 → EReal
  b₂ : Fin 128 → EReal
  scale : Fin 128 → EReal
  shift : Fin 128 → EReal
  head : Fin 2 → Fin 256 → EReal
  headSpline : Fin 2 → Fin 256 → Fin 8 → EReal

variable (A : Args) (s : Fin 4)

/-- The bridge layer at every time step of sample `s`. -/
def Args.hidden (t : Fin 2048) (o : Fin 128) : EReal := kan (A.x s t) (A.bridge o) (A.bridgeSpline o)

/-- The graph's nodes of sample `s`. -/
def Args.graph : Fin 256 → Fin 128 → EReal := nodes (A.hidden s) A.conv₁ A.bias₁ A.conv₂ A.bias₂ A.pos

/-- The embedding of sample `s`. -/
def Args.embedding : Fin 256 → EReal :=
  pooled (rows (A.graph s) A.w₁ A.a₁ A.b₁ A.w₂ A.a₂ A.b₂ A.scale A.shift)

/-- The logits of sample `s`. -/
def Args.logits (o : Fin 2) : EReal := kan (A.embedding s) (A.head o) (A.headSpline o)

end Cert.Proof

end
-- ==== Proof.KernelValue.lean ====
/- The idealized kernel's two results as functions of its argument arrays: what the host operations between the regions
   leave, and the three regions composed. -/
module

public import proofs.«01_k».proof.Proof.BridgeArray
public import proofs.«01_k».proof.Proof.ConvArray
public import proofs.«01_k».proof.Proof.HeadArray
public import proofs.«01_k».proof.Proof.Answer

@[expose] public section

noncomputable section

namespace Cert.Proof

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The argument arrays of a device by their indices. -/
def kernelArgs : Args where
  x s t i := m ((c : Thread nD τ).loc main_arg0) (ix3 s t i)
  bridge o i := m ((c : Thread nD τ).loc main_arg1) (ix2 o i)
  bridgeSpline o i k := m ((c : Thread nD τ).loc main_arg2) (ix3 o i k)
  conv₁ o i k := m ((c : Thread nD τ).loc main_arg3) (ix3 o i k)
  bias₁ o := m ((c : Thread nD τ).loc main_arg4) (ix1 o)
  conv₂ o i k := m ((c : Thread nD τ).loc main_arg5) (ix3 o i k)
  bias₂ o := m ((c : Thread nD τ).loc main_arg6) (ix1 o)
  pos n o := m ((c : Thread nD τ).loc main_arg7) (ix3 0 n o)
  w₁ k d := m ((c : Thread nD τ).loc main_arg8) (ix2 k d)
  a₁ k := m ((c : Thread nD τ).loc main_arg9) (ix1 k)
  b₁ k := m ((c : Thread nD τ).loc main_arg10) (ix1 k)
  w₂ k d := m ((c : Thread nD τ).loc main_arg11) (ix2 k d)
  a₂ k := m ((c : Thread nD τ).loc main_arg12) (ix1 k)
  b₂ k := m ((c : Thread nD τ).loc main_arg13) (ix1 k)
  scale d := m ((c : Thread nD τ).loc main_arg14) (ix1 d)
  shift d := m ((c : Thread nD τ).loc main_arg15) (ix1 d)
  head o i := m ((c : Thread nD τ).loc main_arg16) (ix2 o i)
  headSpline o i k := m ((c : Thread nD τ).loc main_arg17) (ix3 o i k)

theorem join_rows (z : Vec Ideal S4x2048x256 .f32) (s : Fin 4) (t : Fin 2048) (i : Fin 256) :
    shapeCast S8192x256 z shapeCasts_S4x2048x256_S8192x256 (ix2 ⟨s.val * 2048 + t.val, by omega⟩ i) = z (ix3 s t i) := by
  pointwise

theorem split_rows (z : Vec Ideal S8192x128 .f32) (s : Fin 4) (t : Fin 2048) (o : Fin 128) :
    shapeCast S4x2048x128 z shapeCasts_S8192x128_S4x2048x128 (ix3 s t o) = z (ix2 ⟨s.val * 2048 + t.val, by omega⟩ o) := by
  pointwise

theorem r_v0 (i : Fin 256) (o : Fin 128) : V1 m ρ c main_v0 (ix2 i o) = m ((c : Thread nD τ).loc main_arg1) (ix2 o i) := by
  have : V1 m ρ c main_v0 = transpose S256x128 [1, 0] (m ((c : Thread nD τ).loc main_arg1)) transposes_S128x256_S256x128_1_0 := rfl
  rw [this]
  pointwise

theorem r_v2 (i : Fin 256) (k : Fin 8) (o : Fin 128) (h) : V1 m ρ c main_v2 (ix2 ⟨k.val * 256 + i.val, h⟩ o)
    = m ((c : Thread nD τ).loc main_arg2) (ix3 o i k) := by
  have : V1 m ρ c main_v2 = shapeCast S2048x128 (transpose S8x256x128 [2, 1, 0] (m ((c : Thread nD τ).loc main_arg2)) transposes_S128x256x8_S8x256x128_2_1_0) shapeCasts_S8x256x128_S2048x128 := rfl
  rw [this]
  pointwise

theorem r_v10 (s : Fin 4) (t : Fin 2048) (i : Fin 256) (h) : V1 m ρ c main_v10 (ix2 ⟨s.val * 2048 + t.val, h⟩ i)
    = m ((c : Thread nD τ).loc main_arg0) (ix3 s t i) := by
  have : V1 m ρ c main_v10 = shapeCast S8192x256 (m ((c : Thread nD τ).loc main_arg0)) shapeCasts_S4x2048x256_S8192x256 := rfl
  rw [this]
  exact join_rows _ s t i

theorem r_v12 (s : Fin 4) (t : Fin 2048) (o : Fin 128) : V3 m ρ c main_v12 (ix3 s t o)
    = (dat0 (V1 m ρ) c).arrAt 3 cfg0.N (ix2 ⟨s.val * 2048 + t.val, by omega⟩ o) := by
  have : V3 m ρ c main_v12 = shapeCast S4x2048x128 ((dat0 (V1 m ρ) c).arrAt 3 cfg0.N) shapeCasts_S8192x128_S4x2048x128 := by
    rw [← W2_arr m ρ c 3]; rfl
  rw [this]
  exact split_rows _ s t o

theorem r_v4 (i : Fin 128) (k : Fin 3) (o : Fin 128) (h) : V3 m ρ c main_v4 (ix2 ⟨k.val * 128 + i.val, h⟩ o)
    = m ((c : Thread nD τ).loc main_arg3) (ix3 o i k) := by
  have : V3 m ρ c main_v4 = shapeCast S384x128 (transpose S3x128x128 [2, 1, 0] (m ((c : Thread nD τ).loc main_arg3)) transposes_S128x128x3_S3x128x128_2_1_0) shapeCasts_S3x128x128_S384x128 :=
    (W3_of m ρ c main_v4 (by decide)).trans ((W2_of m ρ c main_v4 (by decide)).trans rfl)
  rw [this]
  pointwise

theorem r_v6 (i : Fin 128) (k : Fin 3) (o : Fin 128) (h) : V3 m ρ c main_v6 (ix2 ⟨k.val * 128 + i.val, h⟩ o)
    = m ((c : Thread nD τ).loc main_arg5) (ix3 o i k) := by
  have : V3 m ρ c main_v6 = shapeCast S384x128 (transpose S3x128x128 [2, 1, 0] (m ((c : Thread nD τ).loc main_arg5)) transposes_S128x128x3_S3x128x128_2_1_0) shapeCasts_S3x128x128_S384x128 :=
    (W3_of m ρ c main_v6 (by decide)).trans ((W2_of m ρ c main_v6 (by decide)).trans rfl)
  rw [this]
  pointwise

theorem r_v13 (k : Fin 128) : V3 m ρ c main_v13 (ix2 0 k) = m ((c : Thread nD τ).loc main_arg4) (ix1 k) := by
  have : V3 m ρ c main_v13 = shapeCast S1x128 (m ((c : Thread nD τ).loc main_arg4)) shapeCasts_S128_S1x128 := by
    rw [← W2_args m ρ c main_arg4 (by decide)]; rfl
  rw [this]
  pointwise

theorem r_v14 (k : Fin 128) : V3 m ρ c main_v14 (ix2 0 k) = m ((c : Thread nD τ).loc main_arg6) (ix1 k) := by
  have : V3 m ρ c main_v14 = shapeCast S1x128 (m ((c : Thread nD τ).loc main_arg6)) shapeCasts_S128_S1x128 := by
    rw [← W2_args m ρ c main_arg6 (by decide)]; rfl
  rw [this]
  pointwise

theorem r_arg7 : V3 m ρ c main_arg7 = m ((c : Thread nD τ).loc main_arg7) := W3_args m ρ c main_arg7 (by decide)

theorem r_v16 (k : Fin 128) : V5 m ρ c main_v16 (ix2 k 0) = m ((c : Thread nD τ).loc main_arg9) (ix1 k) := by
  have : V5 m ρ c main_v16 = shapeCast S128x1 (m ((c : Thread nD τ).loc main_arg9)) shapeCasts_S128_S128x1 := by
    rw [← W4_args m ρ c main_arg9 (by decide)]; rfl
  rw [this]
  pointwise

theorem r_v17 (k : Fin 128) : V5 m ρ c main_v17 (ix2 0 k) = m ((c : Thread nD τ).loc main_arg10) (ix1 k) := by
  have : V5 m ρ c main_v17 = shapeCast S1x128 (m ((c : Thread nD τ).loc main_arg10)) shapeCasts_S128_S1x128 := by
    rw [← W4_args m ρ c main_arg10 (by decide)]; rfl
  rw [this]
  pointwise

theorem r_v18 (k : Fin 128) : V5 m ρ c main_v18 (ix2 k 0) = m ((c : Thread nD τ).loc main_arg12) (ix1 k) := by
  have : V5 m ρ c main_v18 = shapeCast S128x1 (m ((c : Thread nD τ).loc main_arg12)) shapeCasts_S128_S128x1 := by
    rw [← W4_args m ρ c main_arg12 (by decide)]; rfl
  rw [this]
  pointwise

theorem r_v19 (k : Fin 128) : V5 m ρ c main_v19 (ix2 0 k) = m ((c : Thread nD τ).loc main_arg13) (ix1 k) := by
  have : V5 m ρ c main_v19 = shapeCast S1x128 (m ((c : Thread nD τ).loc main_arg13)) shapeCasts_S128_S1x128 := by
    rw [← W4_args m ρ c main_arg13 (by decide)]; rfl
  rw [this]
  pointwise

theorem r_v20 (k : Fin 128) : V5 m ρ c main_v20 (ix2 0 k) = m ((c : Thread nD τ).loc main_arg14) (ix1 k) := by
  have : V5 m ρ c main_v20 = shapeCast S1x128 (m ((c : Thread nD τ).loc main_arg14)) shapeCasts_S128_S1x128 := by
    rw [← W4_args m ρ c main_arg14 (by decide)]; rfl
  rw [this]
  pointwise

theorem r_v21 (k : Fin 128) : V5 m ρ c main_v21 (ix2 0 k) = m ((c : Thread nD τ).loc main_arg15) (ix1 k) := by
  have : V5 m ρ c main_v21 = shapeCast S1x128 (m ((c : Thread nD τ).loc main_arg15)) shapeCasts_S128_S1x128 := by
    rw [← W4_args m ρ c main_arg15 (by decide)]; rfl
  rw [this]
  pointwise

theorem r_arg8 : V5 m ρ c main_arg8 = m ((c : Thread nD τ).loc main_arg8) := W5_args m ρ c main_arg8 (by decide)

theorem r_arg11 : V5 m ρ c main_arg11 = m ((c : Thread nD τ).loc main_arg11) := W5_args m ρ c main_arg11 (by decide)

theorem r_v7 (i : Fin 256) (o : Fin 2) : V5 m ρ c main_v7 (ix2 i o) = m ((c : Thread nD τ).loc main_arg16) (ix2 o i) := by
  have : V5 m ρ c main_v7 = transpose S256x2 [1, 0] (m ((c : Thread nD τ).loc main_arg16)) transposes_S2x256_S256x2_1_0 :=
    (W5_of m ρ c main_v7 (by decide)).trans ((W4_of m ρ c main_v7 (by decide)).trans ((W3_of m ρ c main_v7 (by decide)).trans ((W2_of m ρ c main_v7 (by decide)).trans rfl)))
  rw [this]
  pointwise

theorem r_v9 (i : Fin 256) (k : Fin 8) (o : Fin 2) (h) : V5 m ρ c main_v9 (ix2 ⟨k.val * 256 + i.val, h⟩ o)
    = m ((c : Thread nD τ).loc main_arg17) (ix3 o i k) := by
  have : V5 m ρ c main_v9 = shapeCast S2048x2 (transpose S8x256x2 [2, 1, 0] (m ((c : Thread nD τ).loc main_arg17)) transposes_S2x256x8_S8x256x2_2_1_0) shapeCasts_S8x256x2_S2048x2 :=
    (W5_of m ρ c main_v9 (by decide)).trans ((W4_of m ρ c main_v9 (by decide)).trans ((W3_of m ρ c main_v9 (by decide)).trans ((W2_of m ρ c main_v9 (by decide)).trans rfl)))
  rw [this]
  pointwise

theorem r_v15 : V5 m ρ c main_v15 = (dat1 (V3 m ρ) c).arrAt 6 cfg1.N :=
  (W5_of m ρ c main_v15 (by decide)).trans (W4_arr m ρ c 6)

/-- The bridge layer's array, split by sample. -/
theorem hidden_eq (s : Fin 4) (t : Fin 2048) (o : Fin 128) :
    V3 m ρ c main_v12 (ix3 s t o) = (kernelArgs m c).hidden s t o := by
  rw [r_v12, bridge_array]
  show kan (fun i => V1 m ρ c main_v10 (ix2 ⟨s.val * 2048 + t.val, _⟩ i)) (fun i => V1 m ρ c main_v0 (ix2 i o))
    (fun i k => V1 m ρ c main_v2 (ix2 ⟨k.val * 256 + i.val, _⟩ o)) = _
  exact congr (congr (congrArg kan (funext fun i => r_v10 m ρ c s t i _)) (funext fun i => r_v0 m ρ c i o))
    (funext fun i => funext fun k => r_v2 m ρ c i k o _)

/-- The nodes' array. -/
theorem graph_eq (s : Fin 4) (n : Fin 256) (o : Fin 128) :
    V5 m ρ c main_v15 (ix3 s n o) = (kernelArgs m c).graph s n o := by
  rw [r_v15, conv_array]
  show nodes (fun t i => V3 m ρ c main_v12 (ix3 s t i)) (fun o i k => V3 m ρ c main_v4 (ix2 ⟨k.val * 128 + i.val, _⟩ o))
    (fun o => V3 m ρ c main_v13 (ix2 0 o)) (fun o i k => V3 m ρ c main_v6 (ix2 ⟨k.val * 128 + i.val, _⟩ o))
    (fun o => V3 m ρ c main_v14 (ix2 0 o)) (fun n o => V3 m ρ c main_arg7 (ix3 0 n o)) n o = _
  refine congrFun (congrFun (congr (congr (congr (congr (congr (congrArg nodes
    (funext fun t => funext fun i => hidden_eq m ρ c s t i)) (funext fun o => funext fun i => funext fun k => r_v4 m ρ c i k o _))
    (funext fun o => r_v13 m ρ c o)) (funext fun o => funext fun i => funext fun k => r_v6 m ρ c i k o _))
    (funext fun o => r_v14 m ρ c o)) (funext fun n => funext fun o => ?_)) n) o
  rw [r_arg7]
  rfl

/-- A sample's embedding from the third region's inputs. -/
theorem embedding_eq (s : Fin 4) :
    emb (sample (V5 m ρ c main_v15) s) (V5 m ρ c main_arg8) (V5 m ρ c main_v16) (V5 m ρ c main_v17) (V5 m ρ c main_arg11)
      (V5 m ρ c main_v18) (V5 m ρ c main_v19) (V5 m ρ c main_v20) (V5 m ρ c main_v21) = (kernelArgs m c).embedding s := by
  show pooled (rows (fun n d => V5 m ρ c main_v15 (ix3 s n d)) (fun k d => V5 m ρ c main_arg8 (ix2 k d))
    (fun k => V5 m ρ c main_v16 (ix2 k 0)) (fun k => V5 m ρ c main_v17 (ix2 0 k))
    (fun k d => V5 m ρ c main_arg11 (ix2 k d)) (fun k => V5 m ρ c main_v18 (ix2 k 0))
    (fun k => V5 m ρ c main_v19 (ix2 0 k)) (fun k => V5 m ρ c main_v20 (ix2 0 k))
    (fun k => V5 m ρ c main_v21 (ix2 0 k))) = _
  rw [r_arg8, r_arg11]
  exact congrArg pooled (congr (congr (congr (congr (congr (congr (congr (congr (congrArg rows
    (funext fun n => funext fun d => graph_eq m ρ c s n d)) rfl) (funext fun k => r_v16 m ρ c k))
    (funext fun k => r_v17 m ρ c k)) rfl) (funext fun k => r_v18 m ρ c k)) (funext fun k => r_v19 m ρ c k))
    (funext fun k => r_v20 m ρ c k)) (funext fun k => r_v21 m ρ c k))

theorem drop_one (z : Vec Ideal S4x1x256 .f32) (s : Fin 4) (j : Fin 256) :
    shapeCast S4x256 z shapeCasts_S4x1x256_S4x256 (ix2 s j) = z (ix3 s 0 j) := by
  pointwise

theorem drop_one' (z : Vec Ideal S4x1x2 .f32) (s : Fin 4) (o : Fin 2) :
    shapeCast S4x2 z shapeCasts_S4x1x2_S4x2 (ix2 s o) = z (ix3 s 0 o) := by
  pointwise

/-- The kernel's embedding. -/
theorem kernel_embedding (s : Fin 4) (j : Fin 256) :
    W7 m ρ c (Proc.devRef .tc main_v23) (ix2 s j) = (kernelArgs m c).embedding s j := by
  have : W7 m ρ c (Proc.devRef .tc main_v23)
      = shapeCast S4x256 ((dat2 (V5 m ρ) c).arrAt 11 cfg2.N) shapeCasts_S4x1x256_S4x256 := by
    rw [← W6_arr m ρ c 11]; rfl
  rw [this]
  refine (drop_one _ s j).trans ?_
  rw [emb_array]
  exact congrFun (embedding_eq m ρ c s) j

/-- The kernel's logits. -/
theorem kernel_logits (s : Fin 4) (o : Fin 2) :
    W7 m ρ c (Proc.devRef .tc main_v24) (ix2 s o) = (kernelArgs m c).logits s o := by
  have : W7 m ρ c (Proc.devRef .tc main_v24)
      = shapeCast S4x2 ((dat2 (V5 m ρ) c).arrAt 12 cfg2.N) shapeCasts_S4x1x2_S4x2 := by
    rw [← W6_arr m ρ c 12]; rfl
  rw [this]
  refine (drop_one' _ s o).trans ?_
  rw [logits_array]
  show kan (emb (sample (V5 m ρ c main_v15) s) (V5 m ρ c main_arg8) (V5 m ρ c main_v16) (V5 m ρ c main_v17)
      (V5 m ρ c main_arg11) (V5 m ρ c main_v18) (V5 m ρ c main_v19) (V5 m ρ c main_v20) (V5 m ρ c main_v21))
    (fun i => V5 m ρ c main_v7 (ix2 i o)) (fun i k => V5 m ρ c main_v9 (ix2 ⟨k.val * 256 + i.val, _⟩ o)) = _
  rw [embedding_eq]
  exact congr (congrArg (kan _) (funext fun i => r_v7 m ρ c i o)) (funext fun i => funext fun k => r_v9 m ρ c i k o _)

end Cert.Proof

end
-- ==== Proof.RefBridge.lean ====
/- The reference's bridge layer: its knots, its basis functions by the recursion, and its output at a time step. -/
module

public import proofs.«01_k».proof.Proof.Consts
public import proofs.«01_k».proof.Proof.Gen.ReferenceIdeal.Read
public import Idealize.ShloMosaic.Lib.Pointwise
public import Idealize.ShloMosaic.Lib.TwoAxisContraction
public import Mathlib.Tactic.NormNum
public import Mathlib.Tactic.FinCases

@[expose] public section

open scoped BigOperators

noncomputable section

namespace Cert.Proof

open Idealize.ShloMosaic Cert.ReferenceIdeal Cert.ReferenceIdeal.Gen Cert.ReferenceIdeal.Read

/-- The reference's knots before their last shift, as reals. -/
theorem knot_word (j : Fin 12) :
    (Ideal.ofBits FTy.f32 0xC0400000#32 + FloatOps.sitofp (F := Ideal) FTy.f32 (BitVec.ofNat 32 j.val))
      * Ideal.div (Ideal.ofBits FTy.f32 0x40000000#32) (Ideal.ofBits FTy.f32 0x40A00000#32) - 1
      = ((knot j.val : ℝ) : EReal) := by
  have hj : ((BitVec.ofNat 32 j.val).toInt : ℝ) = (j.val : ℝ) := by
    have h : (BitVec.ofNat 32 j.val).toInt = (j.val : ℤ) := by fin_cases j <;> rfl
    rw [h]; simp
  have hs : FloatOps.sitofp (F := Ideal) FTy.f32 (BitVec.ofNat 32 j.val) = ((j.val : ℝ) : EReal) := by
    rw [← hj]; rfl
  rw [hs, w_neg_three, w_two, w_five, Ideal.div_coe (by norm_num), ← EReal.coe_one, ← EReal.coe_add, ← EReal.coe_mul,
    ← EReal.coe_mul, ← EReal.coe_sub]
  congr 1
  unfold knot
  ring

theorem r_grid (j : Fin 12) : val_main_v7 (F := Ideal) (ix1 j) = ((knot j.val : ℝ) : EReal) := by
  pointwise [val_main_v7, val_main_v5, val_main_v3, val_main_v2, val_main_v1, val_main_v0, val_main_v4, val_main_v6,
    val_main_cst, val_main_cst_0, val_main_cst_1, val_main_cst_2]
  exact knot_word j

/-- Every channel has the same knots. -/
theorem r_knot (i : Fin 256) (j : Fin 12) : val_main_v11 (F := Ideal) (ix2 i j) = ((knot j.val : ℝ) : EReal) := by
  rw [← r_grid j]
  pointwise [val_main_v11, val_main_v10, val_main_v9, val_main_v8]

/-- Two comparison bits, both read as one number. -/
theorem ind_and (p q : Prop) [Decidable p] [Decidable q] :
    FloatOps.uitofp (F := Ideal) FTy.f32 (IntOp.andi (BitVec.ofBool (decide p)) (BitVec.ofBool (decide q)))
      = if p ∧ q then 1 else 0 := by
  have e : IntOp.andi (BitVec.ofBool (decide p)) (BitVec.ofBool (decide q)) = BitVec.ofBool (decide (p ∧ q)) := by
    by_cases hp : p <;> by_cases hq : q <;> simp [hp, hq] <;> decide
  rw [e]
  refine (ind_unsigned (decide (p ∧ q))).trans ?_
  simp only [decide_eq_true_eq]

theorem basis_zero (j : ℕ) (x : EReal) :
    basis 0 j x = if (knot j : EReal) ≤ x ∧ x < (knot (1 + j) : EReal) then 1 else 0 := by
  rw [Nat.add_comm 1 j]; rfl

theorem basis_one (j : ℕ) (x : EReal) :
    basis 1 j x = Ideal.div (x - (knot j : EReal)) ((knot (1 + j) : EReal) - (knot j : EReal)) * basis 0 j x
        + Ideal.div ((knot (2 + j) : EReal) - x) ((knot (2 + j) : EReal) - (knot (1 + j) : EReal)) * basis 0 (1 + j) x := by
  rw [Nat.add_comm 1 j, Nat.add_comm 2 j]; rfl

theorem basis_two (j : ℕ) (x : EReal) :
    basis 2 j x = Ideal.div (x - (knot j : EReal)) ((knot (2 + j) : EReal) - (knot j : EReal)) * basis 1 j x
        + Ideal.div ((knot (3 + j) : EReal) - x) ((knot (3 + j) : EReal) - (knot (1 + j) : EReal)) * basis 1 (1 + j) x := by
  rw [Nat.add_comm 1 j, Nat.add_comm 2 j, Nat.add_comm 3 j]; rfl

theorem basis_three (j : ℕ) (x : EReal) :
    basis 3 j x = Ideal.div (x - (knot j : EReal)) ((knot (3 + j) : EReal) - (knot j : EReal)) * basis 2 j x
        + Ideal.div ((knot (4 + j) : EReal) - x) ((knot (4 + j) : EReal) - (knot (1 + j) : EReal)) * basis 2 (1 + j) x := by
  rw [Nat.add_comm 1 j, Nat.add_comm 3 j, Nat.add_comm 4 j]; rfl

variable (x0 : FVec Ideal S4x2048x256 .f32) (x1 : FVec Ideal S128x256 .f32) (x2 : FVec Ideal S128x256x8 .f32)

theorem r_b0 (t : Fin 8192) (i : Fin 256) (j : Fin 11) : val_main_v40 (F := Ideal) x0 (ix3 t i j)
    = basis 0 j.val (val_main_v24 (F := Ideal) x0 (ix2 t i)) := by
  pointwise [val_main_v40, val_main_v39, val_main_v38, val_main_v37, val_main_v36, val_main_v35, val_main_v34,
    val_main_v33, val_main_v32, val_main_v31, val_main_v30, val_main_v29, val_main_v28]
  rw [r_knot, r_knot, ind_and, basis_zero]

theorem r_b1 (t : Fin 8192) (i : Fin 256) (j : Fin 10) : val_main_v67 (F := Ideal) x0 (ix3 t i j)
    = basis 1 j.val (val_main_v24 (F := Ideal) x0 (ix2 t i)) := by
  pointwise [val_main_v41, val_main_v42, val_main_v43, val_main_v44, val_main_v45, val_main_v46, val_main_v47, val_main_v48, val_main_v49,
    val_main_v50, val_main_v51, val_main_v52, val_main_v53, val_main_v54, val_main_v55, val_main_v56, val_main_v57, val_main_v58, val_main_v59,
    val_main_v60, val_main_v61, val_main_v62, val_main_v63, val_main_v64, val_main_v65, val_main_v66, val_main_v67, val_main_v28]
  simp only [r_knot, r_b0, basis_one]

theorem r_b2 (t : Fin 8192) (i : Fin 256) (j : Fin 9) : val_main_v94 (F := Ideal) x0 (ix3 t i j)
    = basis 2 j.val (val_main_v24 (F := Ideal) x0 (ix2 t i)) := by
  pointwise [val_main_v68, val_main_v69, val_main_v70, val_main_v71, val_main_v72, val_main_v73, val_main_v74, val_main_v75, val_main_v76,
    val_main_v77, val_main_v78, val_main_v79, val_main_v80, val_main_v81, val_main_v82, val_main_v83, val_main_v84, val_main_v85, val_main_v86,
    val_main_v87, val_main_v88, val_main_v89, val_main_v90, val_main_v91, val_main_v92, val_main_v93, val_main_v94, val_main_v28]
  simp only [r_knot, r_b1, basis_two]

theorem r_b3 (t : Fin 8192) (i : Fin 256) (j : Fin 8) : val_main_v121 (F := Ideal) x0 (ix3 t i j)
    = basis 3 j.val (val_main_v24 (F := Ideal) x0 (ix2 t i)) := by
  pointwise [val_main_v95, val_main_v96, val_main_v97, val_main_v98, val_main_v99, val_main_v100, val_main_v101, val_main_v102, val_main_v103,
    val_main_v104, val_main_v105, val_main_v106, val_main_v107, val_main_v108, val_main_v109, val_main_v110, val_main_v111, val_main_v112, val_main_v113,
    val_main_v114, val_main_v115, val_main_v116, val_main_v117, val_main_v118, val_main_v119, val_main_v120, val_main_v121, val_main_v28]
  simp only [r_knot, r_b2, basis_three]

theorem r_base (t : Fin 8192) (o : Fin 128) : val_main_v27 (F := Ideal) x0 x1 (ix2 t o)
    = ∑ i, silu (val_main_v24 (F := Ideal) x0 (ix2 t i)) * x1 (ix2 o i) := by
  pointwise [val_main_v27, val_main_v26, val_main_v25, val_main_call0_v5, val_main_call0_v4, val_main_call0_v3, val_main_call0_v2,
    val_main_call0_v1, val_main_call0_v0, val_main_call0_cst, val_main_call0_cst_0]
  rfl

theorem r_spline (b : FVec Ideal S8192x256x8 .f32) (t : Fin 8192) (o : Fin 128) :
    Host.dotGeneral (F := Ideal) dot_S8192x256x8_S128x256x8_S8192x128_21_21_0_0_n_n none b x2 (ix2 t o)
      = ∑ i : Fin 256, ∑ c : Fin 8, b (ix3 t i c) * x2 (ix3 o i c) := by
  pointwise
  exact Finset.sum_comm

/-- The bridge layer at a sample and a time step. -/
theorem r_bridge (s : Fin 4) (t : Fin 2048) (o : Fin 128) : val_main_v124 (F := Ideal) x0 x1 x2 (ix3 s t o)
    = kan (fun i => x0 (ix3 s t i)) (fun i => x1 (ix2 o i)) (fun i c => x2 (ix3 o i c)) := by
  have h24 : ∀ i, val_main_v24 (F := Ideal) x0 (ix2 ⟨s.val * 2048 + t.val, by omega⟩ i) = x0 (ix3 s t i) := by
    intro i
    pointwise [val_main_v24]
  pointwise [val_main_v124, val_main_v123]
  rw [r_base, val_main_v122, r_spline]
  simp only [r_b3, h24]
  rfl

end Cert.Proof

end
-- ==== Proof.RefConv.lean ====
/- The reference's two convolution layers, its pooling and its position table: the graph's nodes. -/
module

public import proofs.«01_k».proof.Proof.RefBridge

@[expose] public section

open scoped BigOperators

noncomputable section

namespace Cert.Proof

open Idealize.ShloMosaic Cert.ReferenceIdeal Cert.ReferenceIdeal.Gen Cert.ReferenceIdeal.Read

theorem word_zero : FloatOps.sitofp (F := Ideal) FTy.f32 0#32 = 0 := by
  show (((0#32 : BitVec 32).toInt : ℝ) : EReal) = 0
  simp

/-- The padding of a sequence by one zero at each end. -/
def padVec (h : FVec Ideal S4x128x2048 .f32) : FVec Ideal S4x128x2050 .f32 :=
  pad S4x128x2050 ![0, 0, 1] ![0, 0, 1] ![0, 0, 0] h (sitofp (F := Ideal) .f32 (constantI S_ 32 0#32))
    pads_S4x128x2048_S4x128x2050_000_000_110 h_S_

theorem padVec_apply (h : FVec Ideal S4x128x2048 .f32) (s : Fin 4) (i : Fin 128) (t : Fin 2050) :
    padVec h (ix3 s i t) = if ht : 1 ≤ t.val ∧ t.val - 1 < 2048 then h (ix3 s i ⟨t.val - 1, ht.2⟩) else 0 := by
  pointwise [padVec]
  rw [word_zero]

/-- One tap of the convolution: the weights' slice against a shifted sequence. -/
def tapVec (w : FVec Ideal S128x128 .f32) (h : FVec Ideal S4x128x2048 .f32) : FVec Ideal S4x128x2048 .f32 :=
  transpose S4x128x2048 [1, 0, 2] (Host.dotGeneral (F := Ideal) dot_S128x128_S4x128x2048_S128x4x2048_1_1_0_02_n_n none w h)
    transposes_S128x4x2048_S4x128x2048_1_0_2

theorem tapVec_apply (w : FVec Ideal S128x128 .f32) (h : FVec Ideal S4x128x2048 .f32) (s : Fin 4) (o : Fin 128)
    (t : Fin 2048) : tapVec w h (ix3 s o t) = ∑ i, h (ix3 s i t) * w (ix2 o i) := by
  pointwise [tapVec]
  exact Finset.sum_congr rfl fun i _ => mul_comm _ _

/-- The reference's convolution with its bias. -/
def convRef (h : FVec Ideal S4x128x2048 .f32) (w : FVec Ideal S128x128x3 .f32) (b : FVec Ideal S128 .f32) :
    FVec Ideal S4x128x2048 .f32 :=
  addf (F := Ideal) (addf (F := Ideal) (addf (F := Ideal) (addf (F := Ideal)
    (broadcastInDim S4x128x2048 ![] bcast_S_S4x128x2048 (constant (F := Ideal) S_ .f32 0x00000000#32))
    (tapVec (shapeCast _ (extractStridedSlice S128x128x1 ![0, 0, 0] w slices_S128x128x3_S128x128x1_0_0_0) shapeCasts_S128x128x1_S128x128)
      (extractStridedSlice S4x128x2048 ![0, 0, 0] (padVec h) slices_S4x128x2050_S4x128x2048_0_0_0)))
    (tapVec (shapeCast _ (extractStridedSlice S128x128x1 ![0, 0, 1] w slices_S128x128x3_S128x128x1_0_0_1) shapeCasts_S128x128x1_S128x128)
      (extractStridedSlice S4x128x2048 ![0, 0, 1] (padVec h) slices_S4x128x2050_S4x128x2048_0_0_1)))
    (tapVec (shapeCast _ (extractStridedSlice S128x128x1 ![0, 0, 2] w slices_S128x128x3_S128x128x1_0_0_2) shapeCasts_S128x128x1_S128x128)
      (extractStridedSlice S4x128x2048 ![0, 0, 2] (padVec h) slices_S4x128x2050_S4x128x2048_0_0_2)))
    (broadcastInDim S4x128x2048 ![0, 1, 2] bcast_S1x128x1_S4x128x2048_0_1_2 (broadcastInDim S1x128x1 ![1] bcast_S128_S1x128x1_1 b))

theorem convRef_apply (h : FVec Ideal S4x128x2048 .f32) (w : FVec Ideal S128x128x3 .f32) (b : FVec Ideal S128 .f32)
    (s : Fin 4) (o : Fin 128) (t : Fin 2048) :
    convRef h w b (ix3 s o t)
      = conv (fun t i => h (ix3 s i t)) (fun i k => w (ix3 o i k)) (b (ix1 o)) t := by
  have hp := padVec_apply h s
  unfold convRef
  generalize padVec h = p at hp ⊢
  pointwise [tapVec_apply]
  unfold conv
  have ht := t.isLt
  have e0 : ∀ i, p (ix3 s i ⟨t.val, by omega⟩) = prev (fun t => h (ix3 s i t)) t := by
    intro i
    rw [hp]
    unfold prev
    by_cases h0 : t.val = 0
    · rw [dif_pos h0, dif_neg (by show ¬(1 ≤ t.val ∧ _); omega)]
    · rw [dif_neg h0, dif_pos (by show 1 ≤ t.val ∧ t.val - 1 < 2048; omega)]
  have e1 : ∀ i, p (ix3 s i ⟨1 + t.val, by omega⟩) = h (ix3 s i t) := by
    intro i
    rw [hp, dif_pos (by show 1 ≤ 1 + t.val ∧ 1 + t.val - 1 < 2048; omega)]
    exact congrArg (fun k => h (ix3 s i k)) (Fin.ext (by show 1 + t.val - 1 = t.val; omega))
  have e2 : ∀ i, p (ix3 s i ⟨2 + t.val, by omega⟩) = next (fun t => h (ix3 s i t)) t := by
    intro i
    rw [hp]
    unfold next
    by_cases h0 : t.val = 2047
    · rw [dif_pos h0, dif_neg (by show ¬(1 ≤ 2 + t.val ∧ 2 + t.val - 1 < 2048); omega)]
    · rw [dif_neg h0, dif_pos (by show 1 ≤ 2 + t.val ∧ 2 + t.val - 1 < 2048; omega)]
      exact congrArg (fun k => h (ix3 s i k)) (Fin.ext (by show 2 + t.val - 1 = t.val + 1; omega))
  simp only [e0, e1, e2]

variable (x0 : FVec Ideal S4x2048x256 .f32) (x1 : FVec Ideal S128x256 .f32) (x2 : FVec Ideal S128x256x8 .f32)
  (x3 : FVec Ideal S128x128x3 .f32) (x4 : FVec Ideal S128 .f32) (x5 : FVec Ideal S128x128x3 .f32)
  (x6 : FVec Ideal S128 .f32) (x7 : FVec Ideal S1x256x128 .f32)

theorem r_conv1 : val_main_v148 (F := Ideal) x0 x1 x2 x3 x4 = convRef (val_main_v125 (F := Ideal) x0 x1 x2) x3 x4 := rfl

theorem r_conv2 : val_main_v172 (F := Ideal) x0 x1 x2 x3 x4 x5 x6 = convRef (val_main_v149 (F := Ideal) x0 x1 x2 x3 x4) x5 x6 := rfl

/-- The reference's scaled exponential unit at an entry. -/
theorem selu_entry (v : EReal) : Ideal.ofBits .f32 0x3F867D5F#32 * (if 0 < v then v else Ideal.ofBits .f32 0x3FD62D7D#32 *
    (Ideal.exp (if 0 < v then 0 else v) - 1)) = selu v := by
  unfold selu
  by_cases h : 0 < v
  · rw [if_pos h, if_pos h]
  · rw [if_neg h, if_neg h, if_neg h]

theorem r_selu1 (s : Fin 4) (o : Fin 128) (t : Fin 2048) : val_main_v149 (F := Ideal) x0 x1 x2 x3 x4 (ix3 s o t)
    = selu (val_main_v148 (F := Ideal) x0 x1 x2 x3 x4 (ix3 s o t)) := by
  pointwise [id, val_main_v149, val_main_call2_v0, val_main_call2_v1, val_main_call2_cst, val_main_call2_cst_0, val_main_call2_call0_cst, val_main_call2_call0_v0,
    val_main_call2_call0_v1, val_main_call2_call0_cst_0, val_main_call2_call0_v2, val_main_call2_call0_v3, val_main_call2_call0_cst_1, val_main_call2_call0_call0_v0,
    val_main_call2_call0_call0_v1, val_main_call2_call0_v4, val_main_call2_call0_v5, val_main_call2_call0_v6, val_main_call2_call0_v7, val_main_call2_call0_v8]
  exact selu_entry _

theorem r_selu2 (s : Fin 4) (o : Fin 128) (t : Fin 2048) : val_main_v173 (F := Ideal) x0 x1 x2 x3 x4 x5 x6 (ix3 s o t)
    = selu (val_main_v172 (F := Ideal) x0 x1 x2 x3 x4 x5 x6 (ix3 s o t)) := by
  pointwise [id, val_main_v173, val_main_call4_v0, val_main_call4_v1, val_main_call4_cst, val_main_call4_cst_0, val_main_call4_call0_cst, val_main_call4_call0_v0,
    val_main_call4_call0_v1, val_main_call4_call0_cst_0, val_main_call4_call0_v2, val_main_call4_call0_v3, val_main_call4_call0_cst_1, val_main_call4_call0_call0_v0,
    val_main_call4_call0_call0_v1, val_main_call4_call0_v4, val_main_call4_call0_v5, val_main_call4_call0_v6, val_main_call4_call0_v7, val_main_call4_call0_v8]
  exact selu_entry _

theorem r_nodes (s : Fin 4) (n : Fin 256) (o : Fin 128) : val_main_v180 (F := Ideal) x0 x1 x2 x3 x4 x5 x6 x7 (ix3 s n o)
    = pool8 (fun t => val_main_v173 (F := Ideal) x0 x1 x2 x3 x4 x5 x6 (ix3 s o t)) n + x7 (ix3 0 n o) := by
  pointwise [val_main_v180, val_main_v179, val_main_v178, val_main_v177, val_main_v176, val_main_v175, val_main_v174, val_main_cst_10, val_main_cst_11]
  rfl

/-- The graph's nodes of a sample. -/
theorem r_graph (s : Fin 4) (n : Fin 256) (o : Fin 128) : val_main_v180 (F := Ideal) x0 x1 x2 x3 x4 x5 x6 x7 (ix3 s n o)
    = nodes (fun t o => kan (fun i => x0 (ix3 s t i)) (fun i => x1 (ix2 o i)) (fun i c => x2 (ix3 o i c)))
        (fun o i k => x3 (ix3 o i k)) (fun o => x4 (ix1 o)) (fun o i k => x5 (ix3 o i k)) (fun o => x6 (ix1 o))
        (fun n o => x7 (ix3 0 n o)) n o := by
  have h125 : ∀ (t : Fin 2048) (i : Fin 128), val_main_v125 (F := Ideal) x0 x1 x2 (ix3 s i t)
      = kan (fun j => x0 (ix3 s t j)) (fun j => x1 (ix2 i j)) (fun j c => x2 (ix3 i j c)) := by
    intro t i
    rw [← r_bridge]
    pointwise [val_main_v125]
  rw [r_nodes]
  simp only [r_selu2, r_conv2, convRef_apply, r_selu1, r_conv1, h125]
  rfl

end Cert.Proof

end
-- ==== Proof.RefMask.lean ====
/- The reference's adjacency: the eighth best score of each row, the entries that reach it, their transpose and the
   diagonal. -/
module

public import proofs.«01_k».proof.Proof.RefConv
public import proofs.«01_k».proof.Proof.TopK

@[expose] public section

open scoped BigOperators

noncomputable section

namespace Cert.Proof

open Idealize.ShloMosaic Cert.ReferenceIdeal Cert.ReferenceIdeal.Gen Cert.ReferenceIdeal.Read

/-- The eight best entries of each row, in order. -/
def bestVec (s : FVec Ideal S4x256x256 .f32) : FVec Ideal S4x256x8 .f32 :=
  (Host.topK S4x256x8 2 (FloatOps.cmpfTotal (F := Ideal) .gt) s sliceFits_S4x256x256_S4x256x8).1

theorem best_eighth (v : FVec Ideal S4x256x256 .f32) (s : Fin 4) (n : Fin 256) :
    bestVec v (ix3 s n 7) = eighth fun m => v (ix3 s n m) := by
  unfold bestVec Host.topK
  pointwise [Host.sort2]
  have h : ∀ k : Fin 256, Shape.Idx.along (s := S4x256x256) (ix3 s n ⟨7, by omega⟩) 2 k = ix3 s n k := by
    intro k
    funext a
    match a with
    | ⟨0, _⟩ => rfl
    | ⟨1, _⟩ => rfl
    | ⟨2, _⟩ => rfl
  have h' := fun k => congrArg v (h k)
  refine (h' _).trans ?_
  unfold eighth
  have e : (fun k k' => FloatOps.cmpfTotal (F := Ideal) (φ := .f32) CmpDirection.gt
      (v (Shape.Idx.along (s := S4x256x256) (ix3 s n ⟨7, by omega⟩) 2 k))
      (v (Shape.Idx.along (s := S4x256x256) (ix3 s n ⟨7, by omega⟩) 2 k')) == 1#1)
      = fun k k' => Ideal.cmp .ogt (v (ix3 s n k)) (v (ix3 s n k')) == 1#1 := by
    funext k k'
    rw [h' k, h' k']
    rfl
  exact congrArg (fun f => v (ix3 s n (sortedFrom f 7))) e

/-- The reference's mask before its last comparison: the largest of the three indicators. -/
def maskRef (v : FVec Ideal S4x256x256 .f32) : FVec Ideal S4x256x256 .f32 :=
  maximumf (F := Ideal) (maximumf (F := Ideal)
    (uitofp (F := Ideal) .f32 (cmpf (F := Ideal) .oge v (broadcastInDim S4x256x256 ![0, 1, 2] bcast_S4x256x1_S4x256x256_0_1_2
      (extractStridedSlice S4x256x1 ![0, 0, 7] (bestVec v) slices_S4x256x8_S4x256x1_0_0_7))))
    (transpose S4x256x256 [0, 2, 1]
      (uitofp (F := Ideal) .f32 (cmpf (F := Ideal) .oge v (broadcastInDim S4x256x256 ![0, 1, 2] bcast_S4x256x1_S4x256x256_0_1_2
        (extractStridedSlice S4x256x1 ![0, 0, 7] (bestVec v) slices_S4x256x8_S4x256x1_0_0_7))))
      transposes_S4x256x256_S4x256x256_0_2_1))
    (broadcastInDim S4x256x256 ![0, 1, 2] bcast_S1x256x256_S4x256x256_0_1_2 (broadcastInDim S1x256x256 ![1, 2] bcast_S256x256_S1x256x256_1_2
      (uitofp (F := Ideal) .f32 (cmpi .eq (addi (iotaInDim S256x256 32 0) (broadcastInDim S256x256 ![] bcast_S_S256x256 (constantI S_ 32 0#32)))
        (iotaInDim S256x256 32 1)))))

theorem uitofp_ind (p : Prop) [Decidable p] :
    FloatOps.uitofp (F := Ideal) FTy.f32 (BitVec.ofBool (decide p)) = if p then 1 else 0 := by
  refine (ind_unsigned (decide p)).trans ?_
  simp only [decide_eq_true_eq]

/-- The largest of three indicators is positive exactly when one holds. -/
theorem max_ind (p q c : Prop) [Decidable p] [Decidable q] [Decidable c] :
    (0 : EReal) < max (max (if p then 1 else 0) (if q then 1 else 0)) (if c then 1 else 0) ↔ p ∨ q ∨ c := by
  have h1 : (0 : EReal) < 1 := zero_lt_one
  simp only [lt_max_iff, or_assoc]
  refine or_congr ?_ (or_congr ?_ ?_) <;> split_ifs with h <;> simp [h, h1]

theorem same_ind (n m : Fin 256) : IntOp.cmpi CmpIPredicate.eq (BitVec.ofNat 32 n.val) (BitVec.ofNat 32 m.val)
    = BitVec.ofBool (decide (n = m)) := by
  have hn : BitVec.ofNat 32 n.val = BitVec.ofNat 32 m.val ↔ n = m := by
    rw [← BitVec.toNat_inj, BitVec.toNat_ofNat, BitVec.toNat_ofNat, Fin.ext_iff]
    omega
  show BitVec.ofBool (BitVec.ofNat 32 n.val == BitVec.ofNat 32 m.val) = _
  congr 1
  rw [beq_eq_decide]
  exact decide_eq_decide.mpr hn

theorem maskRef_apply (v : FVec Ideal S4x256x256 .f32) (s : Fin 4) (n m : Fin 256) :
    0 < maskRef v (ix3 s n m) ↔ adj (fun n m => v (ix3 s n m)) n m := by
  have h := best_eighth v s
  have h1 := splits_eighth (fun k => v (ix3 s n k)) m
  have h2 := splits_eighth (fun k => v (ix3 s m k)) n
  unfold maskRef
  generalize bestVec v = b at h ⊢
  pointwise
  have hz : IntOp.addi (BitVec.ofNat 32 n.val) 0#32 = BitVec.ofNat 32 n.val := BitVec.add_zero _
  rw [hz, same_ind, uitofp_ind, uitofp_ind, uitofp_ind, max_ind]
  beta_reduce at h1 h2
  rw [← h n] at h1
  rw [← h m] at h2
  exact or_congr h1 (or_congr h2 Iff.rfl)

variable (x0 : FVec Ideal S4x2048x256 .f32) (x1 : FVec Ideal S128x256 .f32) (x2 : FVec Ideal S128x256x8 .f32)
  (x3 : FVec Ideal S128x128x3 .f32) (x4 : FVec Ideal S128 .f32) (x5 : FVec Ideal S128x128x3 .f32)
  (x6 : FVec Ideal S128 .f32) (x7 : FVec Ideal S1x256x128 .f32)

theorem r_mask : val_main_v196 (F := Ideal) x0 x1 x2 x3 x4 x5 x6 x7
    = maskRef (val_main_v181 (F := Ideal) x0 x1 x2 x3 x4 x5 x6 x7) := rfl

theorem r_score (s : Fin 4) (n m : Fin 256) : val_main_v181 (F := Ideal) x0 x1 x2 x3 x4 x5 x6 x7 (ix3 s n m)
    = score (fun n d => val_main_v180 (F := Ideal) x0 x1 x2 x3 x4 x5 x6 x7 (ix3 s n d)) n m := by
  pointwise [val_main_v181]
  rfl

end Cert.Proof

end
-- ==== Proof.RefGat.lean ====
/- The reference's graph attention layer, on any nodes and mask. -/
module

public import proofs.«01_k».proof.Proof.RefMask

@[expose] public section

open scoped BigOperators

noncomputable section

namespace Cert.Proof

open Idealize.ShloMosaic Cert.ReferenceIdeal Cert.ReferenceIdeal.Gen Cert.ReferenceIdeal.Read

/-- A scalar spread over the scores. -/
def spread (z : FVec Ideal S_ .f32) : FVec Ideal S4x256x256 .f32 := broadcastInDim S4x256x256 ![] bcast_S_S4x256x256 z

/-- The rectified sums of the two ends' terms. -/
def leakyRef (p q : FVec Ideal S4x256 .f32) : FVec Ideal S4x256x256 .f32 :=
  let e := addf (F := Ideal)
    (broadcastInDim S4x256x256 ![0, 1, 2] bcast_S4x256x1_S4x256x256_0_1_2 (broadcastInDim S4x256x1 ![0, 1] bcast_S4x256_S4x256x1_0_1 p))
    (broadcastInDim S4x256x256 ![0, 1, 2] bcast_S4x1x256_S4x256x256_0_1_2 (broadcastInDim S4x1x256 ![0, 2] bcast_S4x256_S4x1x256_0_2 q))
  select (cmpf (F := Ideal) .oge e (spread (constant (F := Ideal) S_ .f32 0x00000000#32))) e
    (mulf (F := Ideal) (spread (id (constant (F := Ideal) S_ .f32 0x3E4CCCCD#32))) e)

/-- The attention logits under the mask. -/
def logitRef (M : FVec Ideal S4x256x256 .f32) (p q : FVec Ideal S4x256 .f32) : FVec Ideal S4x256x256 .f32 :=
  select (cmpf (F := Ideal) .ogt M (spread (constant (F := Ideal) S_ .f32 0x00000000#32))) (leakyRef p q)
    (spread (id (constant (F := Ideal) S_ .f32 0xCE6E6B28#32)))

/-- A row's value spread over the row. -/
def perRow (x : FVec Ideal S4x256 .f32) : FVec Ideal S4x256x256 .f32 :=
  broadcastInDim S4x256x256 ![0, 1, 2] bcast_S4x256x1_S4x256x256_0_1_2 (broadcastInDim S4x256x1 ![0, 1] bcast_S4x256_S4x256x1_0_1 x)

/-- The rows' maxima. -/
def topRef (e : FVec Ideal S4x256x256 .f32) : FVec Ideal S4x256 .f32 :=
  maximumf (F := Ideal) (broadcastInDim S4x256 ![] bcast_S_S4x256 (constant (F := Ideal) S_ .f32 0xFF800000#32))
    (Host.reduce (FloatOps.maximumf (F := Ideal) (φ := .f32)) e (constant (F := Ideal) S_ .f32 0xFF800000#32) reducesTo_S4x256x256_S4x256_d2 h_S_)

/-- The rows' softmax. -/
def softmaxRef (e : FVec Ideal S4x256x256 .f32) : FVec Ideal S4x256x256 .f32 :=
  let p := Host.exp (F := Ideal) (subf (F := Ideal) e (perRow (topRef e)))
  Host.divf (F := Ideal) p (perRow (Host.reduceAdd (F := Ideal) p (constant (F := Ideal) S_ .f32 0x00000000#32) reducesTo_S4x256x256_S4x256_d2 h_S_))

/-- The exponential linear unit on all nodes. -/
def eluRef (v : FVec Ideal S4x256x128 .f32) : FVec Ideal S4x256x128 .f32 :=
  let z : FVec Ideal S4x256x128 .f32 := broadcastInDim S4x256x128 ![] bcast_S_S4x256x128 (constant (F := Ideal) S_ .f32 0x00000000#32)
  select (cmpf (F := Ideal) .ogt v z) v
    (mulf (F := Ideal) (broadcastInDim S4x256x128 ![] bcast_S_S4x256x128 (constant (F := Ideal) S_ .f32 0x3F800000#32))
      (Host.expm1 (F := Ideal) (select (cmpf (F := Ideal) .ogt v z)
        (broadcastInDim S4x256x128 ![] bcast_S_S4x256x128 (id (constant (F := Ideal) S_ .f32 0x00000000#32))) v)))

/-- The nodes' linear image. -/
def linRef (h : FVec Ideal S4x256x128 .f32) (w : FVec Ideal S128x128 .f32) : FVec Ideal S4x256x128 .f32 :=
  Host.dotGeneral (F := Ideal) dot_S4x256x128_S128x128_S4x256x128_2_0_01_1_n_n none h w

/-- One end's term. -/
def endRef (z : FVec Ideal S4x256x128 .f32) (a : FVec Ideal S128 .f32) : FVec Ideal S4x256 .f32 :=
  Host.dotGeneral (F := Ideal) dot_S4x256x128_S128_S4x256_2_0_01_n_n_n none z a

/-- The attention layer with its residual. -/
def gatRef (M : FVec Ideal S4x256x256 .f32) (h z : FVec Ideal S4x256x128 .f32) (a b : FVec Ideal S128 .f32) :
    FVec Ideal S4x256x128 .f32 :=
  addf (F := Ideal) h (eluRef (Host.dotGeneral (F := Ideal) (φ₁ := .f32) (φ₂ := .f32) dot_S4x256x256_S4x256x128_S4x256x128_2_1_1_2_0_0 none
    (softmaxRef (logitRef M (endRef z a) (endRef z b))) z))

section
variable (s : Fin 4) (n m : Fin 256) (d : Fin 128)

theorem linRef_apply (h : FVec Ideal S4x256x128 .f32) (w : FVec Ideal S128x128 .f32) :
    linRef h w (ix3 s n d) = lin (fun n d => h (ix3 s n d)) (fun k d => w (ix2 k d)) n d := by
  pointwise [linRef]
  rfl

theorem endRef_apply (z : FVec Ideal S4x256x128 .f32) (a : FVec Ideal S128 .f32) :
    endRef z a (ix2 s n) = ∑ k, z (ix3 s n k) * a (ix1 k) := by
  pointwise [endRef]

theorem elu_entry (v : EReal) : (if 0 < v then v else 1 * (Ideal.exp (if 0 < v then 0 else v) - 1)) = elu v := by
  unfold elu
  by_cases h : 0 < v
  · rw [if_pos h, if_pos h]
  · rw [if_neg h, if_neg h, if_neg h, one_mul]

theorem eluRef_apply (v : FVec Ideal S4x256x128 .f32) : eluRef v (ix3 s n d) = elu (v (ix3 s n d)) := by
  rw [← elu_entry]
  pointwise [eluRef, id]

theorem leakyRef_apply (p q : FVec Ideal S4x256 .f32) :
    leakyRef p q (ix3 s n m) = leaky (p (ix2 s n) + q (ix2 s m)) := by
  pointwise [leakyRef, spread, id]
  rfl

theorem logitRef_apply (M : FVec Ideal S4x256x256 .f32) (p q : FVec Ideal S4x256 .f32) (A : Fin 256 → Fin 256 → Prop)
    (hA : ∀ n m, 0 < M (ix3 s n m) ↔ A n m) :
    logitRef M p q (ix3 s n m) = logit A (fun n => p (ix2 s n)) (fun n => q (ix2 s n)) n m := by
  pointwise [logitRef, leakyRef_apply, spread, id]
  unfold logit
  by_cases h : A n m
  · rw [if_pos h, if_pos ((hA n m).2 h)]
  · rw [if_neg h, if_neg fun h' => h ((hA n m).1 h')]

theorem topRef_apply (e : FVec Ideal S4x256x256 .f32) :
    topRef e (ix2 s n) = Finset.univ.sup fun m => e (ix3 s n m) := by
  pointwise [topRef]
  rw [w_neg_inf, max_eq_right bot_le]
  rfl

theorem softmaxRef_apply (e : FVec Ideal S4x256x256 .f32) :
    softmaxRef e (ix3 s n m) = softmax (fun m => e (ix3 s n m)) m := by
  have h := topRef_apply s n e
  unfold softmaxRef
  generalize topRef e = t at h ⊢
  pointwise [perRow]
  rw [h]
  rfl

theorem gatRef_apply (M : FVec Ideal S4x256x256 .f32) (h z : FVec Ideal S4x256x128 .f32) (a b : FVec Ideal S128 .f32)
    (A : Fin 256 → Fin 256 → Prop) (hA : ∀ n m, 0 < M (ix3 s n m) ↔ A n m) :
    gatRef M h z a b (ix3 s n d) = gat A (fun n d => h (ix3 s n d)) (fun n d => z (ix3 s n d)) (fun k => a (ix1 k))
      (fun k => b (ix1 k)) n d := by
  have hl := logitRef_apply s (M := M) (p := endRef z a) (q := endRef z b) (A := A) (hA := hA)
  unfold gatRef gat
  generalize logitRef M (endRef z a) (endRef z b) = e at hl ⊢
  have hs := softmaxRef_apply s (e := e)
  generalize softmaxRef e = f at hs ⊢
  pointwise [eluRef_apply]
  have hr : ∀ n, (fun m => e (ix3 s n m))
      = logit A (fun n => ∑ x, z (ix3 s n x) * a (ix1 x)) (fun n => ∑ x, z (ix3 s n x) * b (ix1 x)) n := by
    intro n
    funext m
    rw [hl]
    simp only [endRef_apply]
  simp only [hs, hr]

end

variable (x0 : FVec Ideal S4x2048x256 .f32) (x1 : FVec Ideal S128x256 .f32) (x2 : FVec Ideal S128x256x8 .f32)
  (x3 : FVec Ideal S128x128x3 .f32) (x4 : FVec Ideal S128 .f32) (x5 : FVec Ideal S128x128x3 .f32)
  (x6 : FVec Ideal S128 .f32) (x7 : FVec Ideal S1x256x128 .f32) (x8 : FVec Ideal S128x128 .f32)
  (x9 x10 : FVec Ideal S128 .f32) (x11 : FVec Ideal S128x128 .f32) (x12 x13 : FVec Ideal S128 .f32)

theorem r_lin1 : val_main_v197 (F := Ideal) x0 x1 x2 x3 x4 x5 x6 x7 x8
    = linRef (val_main_v180 (F := Ideal) x0 x1 x2 x3 x4 x5 x6 x7) x8 := rfl

theorem r_logit1 : val_main_v208 (F := Ideal) x0 x1 x2 x3 x4 x5 x6 x7 x8 x9 x10
    = logitRef (val_main_v196 (F := Ideal) x0 x1 x2 x3 x4 x5 x6 x7)
        (endRef (val_main_v197 (F := Ideal) x0 x1 x2 x3 x4 x5 x6 x7 x8) x9)
        (endRef (val_main_v197 (F := Ideal) x0 x1 x2 x3 x4 x5 x6 x7 x8) x10) := rfl

theorem r_soft1 : val_main_v219 (F := Ideal) x0 x1 x2 x3 x4 x5 x6 x7 x8 x9 x10
    = softmaxRef (val_main_v208 (F := Ideal) x0 x1 x2 x3 x4 x5 x6 x7 x8 x9 x10) := rfl

theorem r_out1 : val_main_v222 (F := Ideal) x0 x1 x2 x3 x4 x5 x6 x7 x8 x9 x10
    = addf (F := Ideal) (val_main_v180 (F := Ideal) x0 x1 x2 x3 x4 x5 x6 x7)
        (eluRef (Host.dotGeneral (F := Ideal) (φ₁ := .f32) (φ₂ := .f32) dot_S4x256x256_S4x256x128_S4x256x128_2_1_1_2_0_0 none
          (val_main_v219 (F := Ideal) x0 x1 x2 x3 x4 x5 x6 x7 x8 x9 x10)
          (val_main_v197 (F := Ideal) x0 x1 x2 x3 x4 x5 x6 x7 x8))) := rfl

theorem r_gat1 : val_main_v222 (F := Ideal) x0 x1 x2 x3 x4 x5 x6 x7 x8 x9 x10
    = gatRef (val_main_v196 (F := Ideal) x0 x1 x2 x3 x4 x5 x6 x7) (val_main_v180 (F := Ideal) x0 x1 x2 x3 x4 x5 x6 x7)
        (linRef (val_main_v180 (F := Ideal) x0 x1 x2 x3 x4 x5 x6 x7) x8) x9 x10 := by
  rw [r_out1, r_soft1, r_logit1, r_lin1, gatRef]

theorem r_lin2 : val_main_v223 (F := Ideal) x0 x1 x2 x3 x4 x5 x6 x7 x8 x9 x10 x11
    = linRef (val_main_v222 (F := Ideal) x0 x1 x2 x3 x4 x5 x6 x7 x8 x9 x10) x11 := rfl

theorem r_logit2 : val_main_v234 (F := Ideal) x0 x1 x2 x3 x4 x5 x6 x7 x8 x9 x10 x11 x12 x13
    = logitRef (val_main_v196 (F := Ideal) x0 x1 x2 x3 x4 x5 x6 x7)
        (endRef (val_main_v223 (F := Ideal) x0 x1 x2 x3 x4 x5 x6 x7 x8 x9 x10 x11) x12)
        (endRef (val_main_v223 (F := Ideal) x0 x1 x2 x3 x4 x5 x6 x7 x8 x9 x10 x11) x13) := rfl

theorem r_soft2 : val_main_v245 (F := Ideal) x0 x1 x2 x3 x4 x5 x6 x7 x8 x9 x10 x11 x12 x13
    = softmaxRef (val_main_v234 (F := Ideal) x0 x1 x2 x3 x4 x5 x6 x7 x8 x9 x10 x11 x12 x13) := rfl

theorem r_out2 : val_main_v248 (F := Ideal) x0 x1 x2 x3 x4 x5 x6 x7 x8 x9 x10 x11 x12 x13
    = addf (F := Ideal) (val_main_v222 (F := Ideal) x0 x1 x2 x3 x4 x5 x6 x7 x8 x9 x10)
        (eluRef (Host.dotGeneral (F := Ideal) (φ₁ := .f32) (φ₂ := .f32) dot_S4x256x256_S4x256x128_S4x256x128_2_1_1_2_0_0 none
          (val_main_v245 (F := Ideal) x0 x1 x2 x3 x4 x5 x6 x7 x8 x9 x10 x11 x12 x13)
          (val_main_v223 (F := Ideal) x0 x1 x2 x3 x4 x5 x6 x7 x8 x9 x10 x11))) := rfl

theorem r_gat2 : val_main_v248 (F := Ideal) x0 x1 x2 x3 x4 x5 x6 x7 x8 x9 x10 x11 x12 x13
    = gatRef (val_main_v196 (F := Ideal) x0 x1 x2 x3 x4 x5 x6 x7)
        (val_main_v222 (F := Ideal) x0 x1 x2 x3 x4 x5 x6 x7 x8 x9 x10)
        (linRef (val_main_v222 (F := Ideal) x0 x1 x2 x3 x4 x5 x6 x7 x8 x9 x10) x11) x12 x13 := by
  rw [r_out2, r_soft2, r_logit2, r_lin2, gatRef]

end Cert.Proof

end
-- ==== Proof.RefNorm.lean ====
/- The reference's layer norm, its pooling over the nodes and its embedding. -/
module

public import proofs.«01_k».proof.Proof.RefGat
public import proofs.«01_k».proof.Proof.Answer
public import Mathlib.Data.EReal.Inv

@[expose] public section

open scoped BigOperators

noncomputable section

namespace Cert.Proof

open Idealize.ShloMosaic Cert.ReferenceIdeal Cert.ReferenceIdeal.Gen Cert.ReferenceIdeal.Read

/-- Dividing by the square root of a positive number is multiplying by its reciprocal square root. -/
theorem div_sqrt (a w : EReal) (h : 0 < w) : Ideal.div a (Ideal.sqrt w) = a * Ideal.rsqrt w := by
  induction w with
  | bot => exact absurd h (not_lt_of_ge bot_le)
  | top =>
    show Ideal.div a ⊤ = a * 0
    rw [Ideal.div, if_neg (by simp), EReal.inv_top]
  | coe r =>
    have hr : 0 < r := by exact_mod_cast h
    have hs : Real.sqrt r ≠ 0 := (Real.sqrt_pos.2 hr).ne'
    have e1 : Ideal.sqrt (r : EReal) = ((Real.sqrt r : ℝ) : EReal) := by
      show (if r < 0 then ⊥ else _) = _
      rw [if_neg (not_lt.2 hr.le)]
    have e2 : Ideal.rsqrt (r : EReal) = (((Real.sqrt r)⁻¹ : ℝ) : EReal) := by
      show (if r < 0 then ⊥ else if r = 0 then ⊤ else _) = _
      rw [if_neg (not_lt.2 hr.le), if_neg hr.ne']
    rw [e1, e2, Ideal.div_coe hs, one_div]

theorem square_nonneg (x : EReal) : 0 ≤ x * x := by
  rcases le_total 0 x with h | h
  · exact mul_nonneg h h
  · rw [← neg_mul_neg]
    exact mul_nonneg (EReal.neg_nonneg.2 h) (EReal.neg_nonneg.2 h)

theorem var_pos (x : Fin 128 → EReal) : 0 < var x + Ideal.ofBits .f32 0x3727C5AC#32 := by
  have hv : 0 ≤ var x := by
    unfold var
    rw [w_128, Ideal.div_coe (by norm_num)]
    exact mul_nonneg (Finset.sum_nonneg fun d _ => square_nonneg _) (by
      rw [← EReal.coe_zero, EReal.coe_le_coe_iff]; norm_num)
  exact lt_of_lt_of_le w_eps_pos (le_add_of_nonneg_left hv)

/-- A node's value spread over its channels. -/
def perNode (x : FVec Ideal S4x256x1 .f32) : FVec Ideal S4x256x128 .f32 :=
  broadcastInDim S4x256x128 ![0, 1, 2] bcast_S4x256x1_S4x256x128_0_1_2 x

/-- A channel's value spread over the nodes. -/
def perChannel (x : FVec Ideal S128 .f32) : FVec Ideal S4x256x128 .f32 :=
  broadcastInDim S4x256x128 ![0, 1, 2] bcast_S1x1x128_S4x256x128_0_1_2 (broadcastInDim S1x1x128 ![2] bcast_S128_S1x1x128_2 x)

/-- The channels' sum over a divisor. -/
def overChannels (y : FVec Ideal S4x256x128 .f32) (c : FVec Ideal S_ .f32) : FVec Ideal S4x256x1 .f32 :=
  Host.divf (F := Ideal) (broadcastInDim S4x256x1 ![0, 1] bcast_S4x256_S4x256x1_0_1
    (Host.reduceAdd (F := Ideal) y (constant (F := Ideal) S_ .f32 0x00000000#32) reducesTo_S4x256x128_S4x256_d2 h_S_))
    (broadcastInDim S4x256x1 ![] bcast_S_S4x256x1 c)

/-- The variance's divisor. -/
def divisor : FVec Ideal S_ .f32 :=
  subf (F := Ideal) (constant (F := Ideal) S_ .f32 0x43000000#32) (sitofp (F := Ideal) .f32 (constantI S_ 32 0#32))

/-- The nodes' variances. -/
def varRef (y : FVec Ideal S4x256x128 .f32) : FVec Ideal S4x256x1 .f32 :=
  let d := subf (F := Ideal) y (perNode (overChannels y (constant (F := Ideal) S_ .f32 0x43000000#32)))
  select (broadcastInDim S4x256x1 ![] bcast_S_S4x256x1
      (cmpf (F := Ideal) .ogt divisor (constant (F := Ideal) S_ .f32 0x00000000#32)))
    (overChannels (mulf (F := Ideal) d d) divisor)
    (broadcastInDim S4x256x1 ![] bcast_S_S4x256x1 (id (constant (F := Ideal) S_ .f32 0x7FC00000#32)))

/-- The layer norm of all nodes. -/
def normRef (y : FVec Ideal S4x256x128 .f32) (g b : FVec Ideal S128 .f32) : FVec Ideal S4x256x128 .f32 :=
  addf (F := Ideal) (mulf (F := Ideal) (Host.divf (F := Ideal)
    (subf (F := Ideal) y (perNode (overChannels y (constant (F := Ideal) S_ .f32 0x43000000#32))))
    (perNode (Host.sqrt (F := Ideal) (addf (F := Ideal) (varRef y)
      (broadcastInDim S4x256x1 ![] bcast_S_S4x256x1 (constant (F := Ideal) S_ .f32 0x3727C5AC#32))))))
    (perChannel g)) (perChannel b)

section
variable (s : Fin 4) (n : Fin 256) (d : Fin 128)

theorem overChannels_apply (y : FVec Ideal S4x256x128 .f32) (c : FVec Ideal S_ .f32) :
    overChannels y c (ix3 s n 0) = Ideal.div (∑ d, y (ix3 s n d)) (c ix0) := by
  pointwise [overChannels]

theorem divisor_apply : divisor ix0 = Ideal.ofBits .f32 0x43000000#32 := by
  pointwise [divisor]
  rw [word_zero, sub_zero]

theorem varRef_apply (y : FVec Ideal S4x256x128 .f32) :
    varRef y (ix3 s n 0) = var fun d => y (ix3 s n d) := by
  have h := divisor_apply
  have h1 := overChannels_apply s n y (constant (F := Ideal) S_ .f32 0x43000000#32)
  unfold varRef
  generalize divisor = c at h ⊢
  generalize overChannels y (constant (F := Ideal) S_ .f32 0x43000000#32) = q at h1 ⊢
  pointwise [perNode, overChannels_apply]
  have hp : 0 < c ix0 := by
    rw [h, w_128, ← EReal.coe_zero, EReal.coe_lt_coe_iff]; norm_num
  rw [if_pos hp, h, h1]
  rfl

theorem normRef_apply (y : FVec Ideal S4x256x128 .f32) (g b : FVec Ideal S128 .f32) :
    normRef y g b (ix3 s n d) = norm (fun d => y (ix3 s n d)) (fun d => g (ix1 d)) (fun d => b (ix1 d)) d := by
  have h1 := overChannels_apply s n y (constant (F := Ideal) S_ .f32 0x43000000#32)
  have h2 := varRef_apply s n y
  unfold normRef
  generalize varRef y = v at h2 ⊢
  generalize overChannels y (constant (F := Ideal) S_ .f32 0x43000000#32) = q at h1 ⊢
  pointwise [perNode, perChannel]
  rw [h1, h2, div_sqrt _ _ (var_pos _)]
  rfl

/-- The mean of the nodes and their maximum, joined. -/
def poolRef (y : FVec Ideal S4x256x128 .f32) : FVec Ideal S4x256 .f32 :=
  concatenate S4x256 1
    [⟨S4x128, Host.divf (F := Ideal) (Host.reduceAdd (F := Ideal) y (constant (F := Ideal) S_ .f32 0x00000000#32) reducesTo_S4x256x128_S4x128_d1 h_S_)
      (broadcastInDim S4x128 ![] bcast_S_S4x128 (constant (F := Ideal) S_ .f32 0x43800000#32))⟩,
     ⟨S4x128, Host.reduce (FloatOps.maximumf (F := Ideal) (φ := .f32)) y (constant (F := Ideal) S_ .f32 0xFF800000#32) reducesTo_S4x256x128_S4x128_d1 h_S_⟩]
    concatenates_S4x128_S4x128_S4x256_d1

theorem poolRef_apply (y : FVec Ideal S4x256x128 .f32) (j : Fin 256) :
    poolRef y (ix2 s j) = pooled (fun n d => y (ix3 s n d)) j := by
  pointwise [poolRef]
  unfold pooled
  rw [w_neg_inf]
  rfl

end

variable (x0 : FVec Ideal S4x2048x256 .f32) (x1 : FVec Ideal S128x256 .f32) (x2 : FVec Ideal S128x256x8 .f32)
  (x3 : FVec Ideal S128x128x3 .f32) (x4 : FVec Ideal S128 .f32) (x5 : FVec Ideal S128x128x3 .f32)
  (x6 : FVec Ideal S128 .f32) (x7 : FVec Ideal S1x256x128 .f32) (x8 : FVec Ideal S128x128 .f32)
  (x9 x10 : FVec Ideal S128 .f32) (x11 : FVec Ideal S128x128 .f32) (x12 x13 x14 x15 : FVec Ideal S128 .f32)

theorem r_var : val_main_v253 (F := Ideal) x0 x1 x2 x3 x4 x5 x6 x7 x8 x9 x10 x11 x12 x13
    = varRef (val_main_v248 (F := Ideal) x0 x1 x2 x3 x4 x5 x6 x7 x8 x9 x10 x11 x12 x13) := rfl

theorem r_mean : val_main_v252 (F := Ideal) x0 x1 x2 x3 x4 x5 x6 x7 x8 x9 x10 x11 x12 x13
    = overChannels (val_main_v248 (F := Ideal) x0 x1 x2 x3 x4 x5 x6 x7 x8 x9 x10 x11 x12 x13)
        (constant (F := Ideal) S_ .f32 0x43000000#32) := rfl

theorem r_normed : val_main_v266 (F := Ideal) x0 x1 x2 x3 x4 x5 x6 x7 x8 x9 x10 x11 x12 x13 x14 x15
    = addf (F := Ideal) (mulf (F := Ideal) (Host.divf (F := Ideal)
        (subf (F := Ideal) (val_main_v248 (F := Ideal) x0 x1 x2 x3 x4 x5 x6 x7 x8 x9 x10 x11 x12 x13)
          (perNode (val_main_v252 (F := Ideal) x0 x1 x2 x3 x4 x5 x6 x7 x8 x9 x10 x11 x12 x13)))
        (perNode (Host.sqrt (F := Ideal) (addf (F := Ideal) (val_main_v253 (F := Ideal) x0 x1 x2 x3 x4 x5 x6 x7 x8 x9 x10 x11 x12 x13)
          (broadcastInDim S4x256x1 ![] bcast_S_S4x256x1 (constant (F := Ideal) S_ .f32 0x3727C5AC#32))))))
        (perChannel x14)) (perChannel x15) := rfl

theorem r_norm : val_main_v266 (F := Ideal) x0 x1 x2 x3 x4 x5 x6 x7 x8 x9 x10 x11 x12 x13 x14 x15
    = normRef (val_main_v248 (F := Ideal) x0 x1 x2 x3 x4 x5 x6 x7 x8 x9 x10 x11 x12 x13) x14 x15 := by
  rw [r_normed, r_var, r_mean, normRef]

theorem r_pool : val_main_v271 (F := Ideal) x0 x1 x2 x3 x4 x5 x6 x7 x8 x9 x10 x11 x12 x13 x14 x15
    = poolRef (val_main_v266 (F := Ideal) x0 x1 x2 x3 x4 x5 x6 x7 x8 x9 x10 x11 x12 x13 x14 x15) := rfl

/-- The reference's embedding of a sample, with its sixteen arguments by their indices. -/
theorem r_embedding (A : Args) (s : Fin 4) (j : Fin 256)
    (h0 : ∀ t i, x0 (ix3 s t i) = A.x s t i) (h1 : ∀ o i, x1 (ix2 o i) = A.bridge o i)
    (h2 : ∀ o i c, x2 (ix3 o i c) = A.bridgeSpline o i c) (h3 : ∀ o i k, x3 (ix3 o i k) = A.conv₁ o i k)
    (h4 : ∀ o, x4 (ix1 o) = A.bias₁ o) (h5 : ∀ o i k, x5 (ix3 o i k) = A.conv₂ o i k)
    (h6 : ∀ o, x6 (ix1 o) = A.bias₂ o) (h7 : ∀ n o, x7 (ix3 0 n o) = A.pos n o)
    (h8 : ∀ k d, x8 (ix2 k d) = A.w₁ k d) (h9 : ∀ k, x9 (ix1 k) = A.a₁ k) (h10 : ∀ k, x10 (ix1 k) = A.b₁ k)
    (h11 : ∀ k d, x11 (ix2 k d) = A.w₂ k d) (h12 : ∀ k, x12 (ix1 k) = A.a₂ k) (h13 : ∀ k, x13 (ix1 k) = A.b₂ k)
    (h14 : ∀ k, x14 (ix1 k) = A.scale k) (h15 : ∀ k, x15 (ix1 k) = A.shift k) :
    val_main_v271 (F := Ideal) x0 x1 x2 x3 x4 x5 x6 x7 x8 x9 x10 x11 x12 x13 x14 x15 (ix2 s j) = A.embedding s j := by
  have hg : ∀ n o, val_main_v180 (F := Ideal) x0 x1 x2 x3 x4 x5 x6 x7 (ix3 s n o) = A.graph s n o := by
    intro n o
    rw [r_graph]
    simp only [h0, h1, h2, h3, h4, h5, h6, h7]
    rfl
  have hm : ∀ n m, 0 < val_main_v196 (F := Ideal) x0 x1 x2 x3 x4 x5 x6 x7 (ix3 s n m) ↔ adj (score (A.graph s)) n m := by
    intro n m
    rw [r_mask, maskRef_apply]
    simp only [r_score, hg]
  rw [r_pool, r_norm, r_gat2, r_gat1]
  generalize val_main_v196 (F := Ideal) x0 x1 x2 x3 x4 x5 x6 x7 = M at hm
  generalize val_main_v180 (F := Ideal) x0 x1 x2 x3 x4 x5 x6 x7 = h at hg
  have hz : ∀ n d, linRef h x8 (ix3 s n d) = lin (A.graph s) A.w₁ n d := by
    intro n d
    rw [linRef_apply]
    simp only [hg, h8]
  have ho := fun n d => gatRef_apply s n d M h (linRef h x8) x9 x10 _ hm
  generalize gatRef M h (linRef h x8) x9 x10 = y at ho
  simp only [hg, hz, h9, h10] at ho
  have hz' := fun n d => linRef_apply s n d y x11
  have hy := fun n d => gatRef_apply s n d M y (linRef y x11) x12 x13 _ hm
  generalize gatRef M y (linRef y x11) x12 x13 = u at hy
  rw [poolRef_apply]
  simp only [normRef_apply, hy, hz', ho, h11, h12, h13, h14, h15]
  rfl

end Cert.Proof

end
-- ==== Proof.RefHead.lean ====
/- The reference's head: its KAN layer on the embedding, the logits. -/
module

public import proofs.«01_k».proof.Proof.RefNorm

@[expose] public section

open scoped BigOperators

noncomputable section

namespace Cert.Proof

open Idealize.ShloMosaic Cert.ReferenceIdeal Cert.ReferenceIdeal.Gen Cert.ReferenceIdeal.Read

theorem h_grid (j : Fin 12) : val_main_v19 (F := Ideal) (ix1 j) = ((knot j.val : ℝ) : EReal) := by
  pointwise [val_main_v19, val_main_v17, val_main_v15, val_main_v14, val_main_v13, val_main_v12, val_main_v16, val_main_v18,
    val_main_cst_3, val_main_cst_4, val_main_cst_5, val_main_cst_6]
  exact knot_word j

theorem h_knot (i : Fin 256) (j : Fin 12) : val_main_v23 (F := Ideal) (ix2 i j) = ((knot j.val : ℝ) : EReal) := by
  rw [← h_grid j]
  pointwise [val_main_v23, val_main_v22, val_main_v21, val_main_v20]

variable (x0 : FVec Ideal S4x2048x256 .f32) (x1 : FVec Ideal S128x256 .f32) (x2 : FVec Ideal S128x256x8 .f32)
  (x3 : FVec Ideal S128x128x3 .f32) (x4 : FVec Ideal S128 .f32) (x5 : FVec Ideal S128x128x3 .f32)
  (x6 : FVec Ideal S128 .f32) (x7 : FVec Ideal S1x256x128 .f32) (x8 : FVec Ideal S128x128 .f32)
  (x9 x10 : FVec Ideal S128 .f32) (x11 : FVec Ideal S128x128 .f32) (x12 x13 x14 x15 : FVec Ideal S128 .f32)
  (x16 : FVec Ideal S2x256 .f32) (x17 : FVec Ideal S2x256x8 .f32)

theorem h_b0 (s : Fin 4) (i : Fin 256) (j : Fin 11) : val_main_v287 (F := Ideal) x0 x1 x2 x3 x4 x5 x6 x7 x8 x9 x10 x11 x12 x13 x14 x15 (ix3 s i j)
    = basis 0 j.val (val_main_v271 (F := Ideal) x0 x1 x2 x3 x4 x5 x6 x7 x8 x9 x10 x11 x12 x13 x14 x15 (ix2 s i)) := by
  pointwise [val_main_v287, val_main_v286, val_main_v285, val_main_v284, val_main_v283, val_main_v282, val_main_v281,
    val_main_v280, val_main_v279, val_main_v278, val_main_v277, val_main_v276, val_main_v275]
  rw [h_knot, h_knot, ind_and, basis_zero]

theorem h_b1 (s : Fin 4) (i : Fin 256) (j : Fin 10) : val_main_v314 (F := Ideal) x0 x1 x2 x3 x4 x5 x6 x7 x8 x9 x10 x11 x12 x13 x14 x15 (ix3 s i j)
    = basis 1 j.val (val_main_v271 (F := Ideal) x0 x1 x2 x3 x4 x5 x6 x7 x8 x9 x10 x11 x12 x13 x14 x15 (ix2 s i)) := by
  pointwise [val_main_v288, val_main_v289, val_main_v290, val_main_v291, val_main_v292, val_main_v293, val_main_v294, val_main_v295, val_main_v296,
    val_main_v297, val_main_v298, val_main_v299, val_main_v300, val_main_v301, val_main_v302, val_main_v303, val_main_v304, val_main_v305, val_main_v306,
    val_main_v307, val_main_v308, val_main_v309, val_main_v310, val_main_v311, val_main_v312, val_main_v313, val_main_v314, val_main_v275]
  simp only [h_knot, h_b0, basis_one]

theorem h_b2 (s : Fin 4) (i : Fin 256) (j : Fin 9) : val_main_v341 (F := Ideal) x0 x1 x2 x3 x4 x5 x6 x7 x8 x9 x10 x11 x12 x13 x14 x15 (ix3 s i j)
    = basis 2 j.val (val_main_v271 (F := Ideal) x0 x1 x2 x3 x4 x5 x6 x7 x8 x9 x10 x11 x12 x13 x14 x15 (ix2 s i)) := by
  pointwise [val_main_v315, val_main_v316, val_main_v317, val_main_v318, val_main_v319, val_main_v320, val_main_v321, val_main_v322, val_main_v323,
    val_main_v324, val_main_v325, val_main_v326, val_main_v327, val_main_v328, val_main_v329, val_main_v330, val_main_v331, val_main_v332, val_main_v333,
    val_main_v334, val_main_v335, val_main_v336, val_main_v337, val_main_v338, val_main_v339, val_main_v340, val_main_v341, val_main_v275]
  simp only [h_knot, h_b1, basis_two]

theorem h_b3 (s : Fin 4) (i : Fin 256) (j : Fin 8) : val_main_v368 (F := Ideal) x0 x1 x2 x3 x4 x5 x6 x7 x8 x9 x10 x11 x12 x13 x14 x15 (ix3 s i j)
    = basis 3 j.val (val_main_v271 (F := Ideal) x0 x1 x2 x3 x4 x5 x6 x7 x8 x9 x10 x11 x12 x13 x14 x15 (ix2 s i)) := by
  pointwise [val_main_v342, val_main_v343, val_main_v344, val_main_v345, val_main_v346, val_main_v347, val_main_v348, val_main_v349, val_main_v350,
    val_main_v351, val_main_v352, val_main_v353, val_main_v354, val_main_v355, val_main_v356, val_main_v357, val_main_v358, val_main_v359, val_main_v360,
    val_main_v361, val_main_v362, val_main_v363, val_main_v364, val_main_v365, val_main_v366, val_main_v367, val_main_v368, val_main_v275]
  simp only [h_knot, h_b2, basis_three]

theorem h_base (s : Fin 4) (o : Fin 2) : val_main_v274 (F := Ideal) x0 x1 x2 x3 x4 x5 x6 x7 x8 x9 x10 x11 x12 x13 x14 x15 x16 (ix2 s o)
    = ∑ i, silu (val_main_v271 (F := Ideal) x0 x1 x2 x3 x4 x5 x6 x7 x8 x9 x10 x11 x12 x13 x14 x15 (ix2 s i)) * x16 (ix2 o i) := by
  pointwise [val_main_v274, val_main_v273, val_main_v272, val_main_call12_v5, val_main_call12_v4, val_main_call12_v3, val_main_call12_v2,
    val_main_call12_v1, val_main_call12_v0, val_main_call12_cst, val_main_call12_cst_0]
  rfl

theorem h_spline (b : FVec Ideal S4x256x8 .f32) (s : Fin 4) (o : Fin 2) :
    Host.dotGeneral (F := Ideal) dot_S4x256x8_S2x256x8_S4x2_21_21_0_0_n_n none b x17 (ix2 s o)
      = ∑ i : Fin 256, ∑ c : Fin 8, b (ix3 s i c) * x17 (ix3 o i c) := by
  pointwise
  exact Finset.sum_comm

/-- The logits of a sample: the KAN layer on its embedding. -/
theorem r_logits (s : Fin 4) (o : Fin 2) : val_main_v370 (F := Ideal) x0 x1 x2 x3 x4 x5 x6 x7 x8 x9 x10 x11 x12 x13 x14 x15 x16 x17 (ix2 s o)
    = kan (fun i => val_main_v271 (F := Ideal) x0 x1 x2 x3 x4 x5 x6 x7 x8 x9 x10 x11 x12 x13 x14 x15 (ix2 s i)) (fun i => x16 (ix2 o i)) (fun i c => x17 (ix3 o i c)) := by
  refine congrArg₂ (· + ·) (h_base x0 x1 x2 x3 x4 x5 x6 x7 x8 x9 x10 x11 x12 x13 x14 x15 x16 s o) ((h_spline x17 _ s o).trans ?_)
  simp only [h_b3]

end Cert.Proof

end
-- ==== Proof.Equation.lean ====
/- The equation: the reference's two results, on the kernel's argument arrays, are the contents the kernel ends with. -/
module

public import proofs.«01_k».proof.Proof.KernelValue
public import proofs.«01_k».proof.Proof.RefHead

@[expose] public section

noncomputable section

namespace Cert.Proof

open Idealize.ShloMosaic Cert.ReferenceIdeal.Read

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's embedding at an entry. -/
theorem ref_embedding (s : Fin 4) (j : Fin 256) : val_main_v271 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15)) (ix2 s j)
    = (kernelArgs m c).embedding s j := by
  refine r_embedding _ _ _ _ _ _ _ _ _ _ _ _ _ _ _ _ (kernelArgs m c) s j ?_ ?_ ?_ ?_ ?_ ?_ ?_ ?_ ?_ ?_ ?_ ?_ ?_ ?_ ?_ ?_ <;>
    intros <;> rfl

/-- The reference's logits at an entry. -/
theorem ref_logits (s : Fin 4) (o : Fin 2) : val_main_v370 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17)) (ix2 s o)
    = (kernelArgs m c).logits s o := by
  rw [r_logits]
  exact congrArg (fun e => kan e ((kernelArgs m c).head o) ((kernelArgs m c).headSpline o))
    (funext fun i => ref_embedding m c s i)

/-- The reference's embedding is the array the kernel ends with. -/
theorem same_embedding : val_main_v271 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    = Cert.KernelIdeal.Gen.W7 m ρ c (Proc.devRef .tc Cert.KernelIdeal.main_v23) := by
  funext i
  rw [eq_ix2 i]
  exact (ref_embedding m c _ _).trans (kernel_embedding m ρ c _ _).symm

/-- The reference's logits are the array the kernel ends with. -/
theorem same_logits : val_main_v370 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    = Cert.KernelIdeal.Gen.W7 m ρ c (Proc.devRef .tc Cert.KernelIdeal.main_v24) := by
  funext i
  rw [eq_ix2 i]
  exact (ref_logits m c _ _).trans (kernel_logits m ρ c _ _).symm

end Cert.Proof

end
-- ==== Proof.Algebraic.lean ====
/- The value claim: on equal arguments the kernel and the reference end with equal results. The kernel's run names its
   two results; the reference's run gives its results as terms of its own arguments, which are the kernel's. -/
module

public import proofs.«01_k».proof.Defs
public import proofs.«01_k».proof.Proof.KernelRun
public import proofs.«01_k».proof.Proof.Equation

@[expose] public section

set_option maxRecDepth 16384

noncomputable section

namespace Cert.Proof

open Idealize.ShloMosaic Idealize.ShloMosaic.StableHlo Idealize.SL.Sem Cert.ReferenceIdeal.Read

/-- The two programs end with the same embedding and the same logits. -/
theorem same_results : Cert.algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Gen.W7 m g c (Proc.devRef .tc Cert.KernelIdeal.main_v24),
    fun c => Cert.KernelIdeal.Gen.W7 m g c (Proc.devRef .tc Cert.KernelIdeal.main_v23), kernel_run m g,
    (θ_run _ _ _).mono (fun r hr c => ?_) (Cert.ReferenceIdeal.Value.run m' g')⟩
  obtain ⟨h0, h1, h2, h3, h4, h5, h6, h7, h8, h9, h10, h11, h12, h13, h14, h15, h16, h17, -, -⟩ := h c
  refine ⟨(hr c).1.trans ((val_main_v370_eq (launchContents m' c)).trans (Eq.trans ?_ (same_logits m g c))),
    (hr c).2.1.trans ((val_main_v271_eq (launchContents m' c)).trans (Eq.trans ?_ (same_embedding m g c))), (hr c).2.2⟩
  · rw [← h0, ← h1, ← h2, ← h3, ← h4, ← h5, ← h6, ← h7, ← h8, ← h9,
      ← h10, ← h11, ← h12, ← h13, ← h14, ← h15, ← h16, ← h17]
  · rw [← h0, ← h1, ← h2, ← h3, ← h4, ← h5, ← h6, ← h7, ← h8, ← h9,
      ← h10, ← h11, ← h12, ← h13, ← h14, ← h15]

end Cert.Proof

end
-- ==== Proof.lean ====
/- The five claims put together: the frames of the three programs, the named constants, and the equality of results. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Algebraic
public import Idealize.ShloMosaic.Adequacy
public import Idealize.ShloMosaic.Init
public import Idealize.ShloMosaic.PureOps.IdealRules

@[expose] public section

set_option maxRecDepth 16384

noncomputable section

namespace Cert.Proof

open Idealize.ShloMosaic Idealize.SL.Sem

/-- The kernel over words leaves its arguments unchanged and its counters at zero. -/
theorem kernel_frame : Cert.quiescent_Kernel (hKernel := Cert.Kernel.Gen.facts) :=
  fun m g _ => Cert.Kernel.Gen.frame m g

/-- So does the kernel over the extended reals. -/
theorem ideal_frame : Cert.quiescent_KernelIdeal (hKernelIdeal := Cert.KernelIdeal.Gen.facts) :=
  fun m g _ => Cert.KernelIdeal.Gen.frame m g

/-- So does the reference, which has no counter at all. -/
theorem reference_frame : Cert.quiescent_ReferenceIdeal (hReferenceIdeal := Cert.ReferenceIdeal.Gen.facts) :=
  fun m g _ => (θ_run _ _ _).mono
    (fun r h => ⟨fun c => (h c).2.2, Idealize.ShloMosaic.sem_eq_zero_of_no_sems (by decide) r.2⟩)
    (Cert.ReferenceIdeal.Value.run m g)

/-- The three named constants have, over the extended reals, the values that the table gives them. -/
theorem constants : Cert.preserves_Kernel_KernelIdeal :=
  ⟨IdealRules.named_const.statement Cert.KernelIdeal.κ "g0" .f32 0xC00CCCCD#32 ((-11 / 5 : ℝ) : EReal) rfl,
    IdealRules.named_const.statement Cert.KernelIdeal.κ "sixth" .f32 0x3E2AAAAB#32 ((1 / 6 : ℝ) : EReal) rfl,
    IdealRules.named_const.statement Cert.KernelIdeal.κ "mask" .f32 0xF149F2CA#32 ⊥ rfl⟩

/-- Every claim about the three programs. -/
theorem claim : Cert.Claim :=
  ⟨Cert.Kernel.Gen.facts, Cert.KernelIdeal.Gen.facts, Cert.ReferenceIdeal.Gen.facts, kernel_frame, ideal_frame,
    reference_frame, constants, same_results⟩

end Cert.Proof

end
